-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnIdeal_keys_finite [hPre_keys_finite : Cert.Pre_keys_finite.Facts] (m : (ℓ : Loc Cert.XattnIdeal.nD Cert.XattnIdeal.τ Cert.XattnIdeal.sig) → Buf (Elt Ideal) ℓ) : Prop :=
  ∀ c : Dev Cert.XattnIdeal.nD,
    (Cert.Pre_keys_finite.fn (F := Ideal) (m ((c.tc : Thread Cert.XattnIdeal.nD Cert.XattnIdeal.τ).loc Cert.XattnIdeal.main_arg0)) (m ((c.tc : Thread Cert.XattnIdeal.nD Cert.XattnIdeal.τ).loc Cert.XattnIdeal.main_arg1)) (m ((c.tc : Thread Cert.XattnIdeal.nD Cert.XattnIdeal.τ).loc Cert.XattnIdeal.main_arg2)) (m ((c.tc : Thread Cert.XattnIdeal.nD Cert.XattnIdeal.τ).loc Cert.XattnIdeal.main_arg3)) (m ((c.tc : Thread Cert.XattnIdeal.nD Cert.XattnIdeal.τ).loc Cert.XattnIdeal.main_arg4))) = (fun _ => 1#1)

def Pre_XattnRefIdeal (m : (ℓ : Loc Cert.XattnRefIdeal.nD Cert.XattnRefIdeal.τ Cert.XattnRefIdeal.sig) → Buf (Elt Ideal) ℓ) : Prop :=
  True

def Pre_XattnRefIdeal_keys_finite [hPre_keys_finite : Cert.Pre_keys_finite.Facts] (m : (ℓ : Loc Cert.XattnRefIdeal.nD Cert.XattnRefIdeal.τ Cert.XattnRefIdeal.sig) → Buf (Elt Ideal) ℓ) : Prop :=
  ∀ c : Dev Cert.XattnRefIdeal.nD,
    (Cert.Pre_keys_finite.fn (F := Ideal) (m ((c.tc : Thread Cert.XattnRefIdeal.nD Cert.XattnRefIdeal.τ).loc Cert.XattnRefIdeal.main_arg0)) (m ((c.tc : Thread Cert.XattnRefIdeal.nD Cert.XattnRefIdeal.τ).loc Cert.XattnRefIdeal.main_arg1)) (m ((c.tc : Thread Cert.XattnRefIdeal.nD Cert.XattnRefIdeal.τ).loc Cert.XattnRefIdeal.main_arg2)) (m ((c.tc : Thread Cert.XattnRefIdeal.nD Cert.XattnRefIdeal.τ).loc Cert.XattnRefIdeal.main_arg3)) (m ((c.tc : Thread Cert.XattnRefIdeal.nD Cert.XattnRefIdeal.τ).loc Cert.XattnRefIdeal.main_arg4))) = (fun _ => 1#1)

def Pre_Experts [hPre_groups_in_range : Cert.Pre_groups_in_range.Facts] (m : (ℓ : Loc Cert.Experts.nD Cert.Experts.τ Cert.Experts.sig) → Buf (Elt Bits) ℓ) : Prop :=
  ∀ c : Dev Cert.Experts.nD,
    (Cert.Pre_groups_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_groups_in_range : Cert.Pre_groups_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_groups_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_groups_in_range [hPre_groups_in_range : Cert.Pre_groups_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_groups_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_XattnIdeal_pre_keys_finite [hXattnIdeal : Cert.XattnIdeal.Facts] [hPre_keys_finite : Cert.Pre_keys_finite.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal_keys_finite m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4))
      ∧ r.2.sem = fun _ => 0)

def quiescent_XattnRefIdeal_pre_keys_finite [hXattnRefIdeal : Cert.XattnRefIdeal.Facts] [hPre_keys_finite : Cert.Pre_keys_finite.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal_keys_finite m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4))
      ∧ r.2.sem = fun _ => 0)

def quiescent_Experts [hExperts : Cert.Experts.Facts] [hPre_groups_in_range : Cert.Pre_groups_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_groups_in_range : Cert.Pre_groups_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_groups_in_range [hExpertsRefIdeal : Cert.ExpertsRefIdeal.Facts] [hPre_groups_in_range : Cert.Pre_groups_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_groups_in_range m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v24) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Xattn_XattnIdeal : Prop :=
  True

def algebraic_XattnIdeal_XattnRefIdeal_pre_keys_finite [hXattnIdeal : Cert.XattnIdeal.Facts] [hXattnRefIdeal : Cert.XattnRefIdeal.Facts] [hPre_keys_finite : Cert.Pre_keys_finite.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal_keys_finite m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)) →
    ∃ (v0 : (c : Dev Cert.XattnIdeal.nD) → Buf (Elt Ideal) ((c.tc : Thread Cert.XattnIdeal.nD Cert.XattnIdeal.τ).loc Cert.XattnIdeal.main_v3)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v3) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v38) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4))

def preserves_Experts_ExpertsIdeal : Prop :=
  True

def algebraic_ExpertsIdeal_ExpertsRefIdeal [hExpertsIdeal : Cert.ExpertsIdeal.Facts] [hExpertsRefIdeal : Cert.ExpertsRefIdeal.Facts] [hPre_groups_in_range : Cert.Pre_groups_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v3)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v3) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v85) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v6_0)) (v1 : (c : Dev Cert.InprojIdeal.nD) → Buf (Elt Ideal) ((c.tc : Thread Cert.InprojIdeal.nD Cert.InprojIdeal.τ).loc Cert.InprojIdeal.main_v6_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v6_0) = v0 c
          ∧ r.2.mem ((c.tc : Thread Cert.InprojIdeal.nD Cert.InprojIdeal.τ).loc Cert.InprojIdeal.main_v6_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v44) = v0 c
          ∧ r.2.mem ((c.tc : Thread Cert.InprojRefIdeal.nD Cert.InprojRefIdeal.τ).loc Cert.InprojRefIdeal.main_v43) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v2)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v2) = v0 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v14) = v0 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2))

def Claim : Prop :=
  ∃ (hMerge : Cert.Merge.Facts) (hMergeIdeal : Cert.MergeIdeal.Facts) (hMergeRefIdeal : Cert.MergeRefIdeal.Facts) (hXattn : Cert.Xattn.Facts) (hXattnIdeal : Cert.XattnIdeal.Facts) (hXattnRefIdeal : Cert.XattnRefIdeal.Facts) (hExperts : Cert.Experts.Facts) (hExpertsIdeal : Cert.ExpertsIdeal.Facts) (hExpertsRefIdeal : Cert.ExpertsRefIdeal.Facts) (hInproj : Cert.Inproj.Facts) (hInprojIdeal : Cert.InprojIdeal.Facts) (hInprojRefIdeal : Cert.InprojRefIdeal.Facts) (hMemkv : Cert.Memkv.Facts) (hMemkvIdeal : Cert.MemkvIdeal.Facts) (hMemkvRefIdeal : Cert.MemkvRefIdeal.Facts) (hPre_keys_finite : Cert.Pre_keys_finite.Facts) (hPre_groups_in_range : Cert.Pre_groups_in_range.Facts),
    quiescent_Merge (hMerge := hMerge)
    ∧ quiescent_MergeIdeal (hMergeIdeal := hMergeIdeal)
    ∧ quiescent_MergeRefIdeal (hMergeRefIdeal := hMergeRefIdeal)
    ∧ quiescent_Xattn (hXattn := hXattn)
    ∧ quiescent_XattnIdeal (hXattnIdeal := hXattnIdeal)
    ∧ quiescent_XattnIdeal_pre_keys_finite (hXattnIdeal := hXattnIdeal) (hPre_keys_finite := hPre_keys_finite)
    ∧ quiescent_XattnRefIdeal (hXattnRefIdeal := hXattnRefIdeal)
    ∧ quiescent_XattnRefIdeal_pre_keys_finite (hXattnRefIdeal := hXattnRefIdeal) (hPre_keys_finite := hPre_keys_finite)
    ∧ quiescent_Experts (hExperts := hExperts) (hPre_groups_in_range := hPre_groups_in_range)
    ∧ quiescent_ExpertsIdeal (hExpertsIdeal := hExpertsIdeal) (hPre_groups_in_range := hPre_groups_in_range)
    ∧ quiescent_ExpertsRefIdeal (hExpertsRefIdeal := hExpertsRefIdeal)
    ∧ quiescent_ExpertsRefIdeal_pre_groups_in_range (hExpertsRefIdeal := hExpertsRefIdeal) (hPre_groups_in_range := hPre_groups_in_range)
    ∧ quiescent_Inproj (hInproj := hInproj)
    ∧ quiescent_InprojIdeal (hInprojIdeal := hInprojIdeal)
    ∧ quiescent_InprojRefIdeal (hInprojRefIdeal := hInprojRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ preserves_Merge_MergeIdeal
    ∧ algebraic_MergeIdeal_MergeRefIdeal (hMergeIdeal := hMergeIdeal) (hMergeRefIdeal := hMergeRefIdeal)
    ∧ preserves_Xattn_XattnIdeal
    ∧ algebraic_XattnIdeal_XattnRefIdeal_pre_keys_finite (hXattnIdeal := hXattnIdeal) (hXattnRefIdeal := hXattnRefIdeal) (hPre_keys_finite := hPre_keys_finite)
    ∧ preserves_Experts_ExpertsIdeal
    ∧ algebraic_ExpertsIdeal_ExpertsRefIdeal (hExpertsIdeal := hExpertsIdeal) (hExpertsRefIdeal := hExpertsRefIdeal) (hPre_groups_in_range := hPre_groups_in_range)
    ∧ preserves_Inproj_InprojIdeal
    ∧ algebraic_InprojIdeal_InprojRefIdeal (hInprojIdeal := hInprojIdeal) (hInprojRefIdeal := hInprojRefIdeal)
    ∧ preserves_Memkv_MemkvIdeal
    ∧ algebraic_MemkvIdeal_MemkvRefIdeal (hMemkvIdeal := hMemkvIdeal) (hMemkvRefIdeal := hMemkvRefIdeal)
-- ==== Pre_groups_in_range.lean ====
abbrev S68 : Shape := ⟨1, ![68]⟩
abbrev S1 : Shape := ⟨1, ![1]⟩
abbrev S34816x1152 : Shape := ⟨2, ![34816, 1152]⟩
abbrev S4x8x1024x256 : Shape := ⟨4, ![4, 8, 1024, 256]⟩
abbrev S4x8x256x1024 : Shape := ⟨4, ![4, 8, 256, 1024]⟩
abbrev S_ : Shape := ⟨0, ![]⟩

class Facts : Prop where
  bcast_S_S68 : S_.BroadcastsInDim S68 (![] : Fin 0 → Fin S68.rank)
  reducesTo_S68_S_d0 : S68.ReducesTo [0] S_
  h_S_ : 0 < S_.numel

variable [Facts]

def fn {F : FTy → Type} [FloatOps F] (main_arg0 : IVec S68 32) (main_arg1 : IVec S1 32) (main_arg2 : FVec F S34816x1152 .f32) (main_arg3 : FVec F S4x8x1024x256 .f32) (main_arg4 : FVec F S4x8x1024x256 .f32) (main_arg5 : FVec F S4x8x256x1024 .f32) : IVec S_ 1 :=
  let main_c : IVec S_ 32 := constantI S_ 32 0#32
  let main_v0 : IVec S68 32 := broadcastInDim S68 ![] bcast_S_S68 main_c
  let main_v1 : IVec S68 1 := cmpi .sge main_arg0 main_v0
  let main_c_0 : IVec S_ 32 := constantI S_ 32 4#32
  let main_v2 : IVec S68 32 := broadcastInDim S68 ![] bcast_S_S68 main_c_0
  let main_v3 : IVec S68 1 := cmpi .slt main_arg0 main_v2
  let main_v4 : IVec S68 1 := andi main_v1 main_v3
  let main_c_1 : IVec S_ 1 := constantI S_ 1 1#1
  let main_v5 : IVec S_ 1 := (fun x v => Host.reduce IntOp.andi x v reducesTo_S68_S_d0 h_S_) main_v4 main_c_1
  main_v5
-- ==== Pre_keys_finite.lean ====
abbrev S8x4096x1024 : Shape := ⟨3, ![8, 4096, 1024]⟩
abbrev S1024 : Shape := ⟨1, ![1024]⟩
abbrev S8x256x2048 : Shape := ⟨3, ![8, 256, 2048]⟩
abbrev S1024x1024 : Shape := ⟨2, ![1024, 1024]⟩
abbrev S8x256x1024 : Shape := ⟨3, ![8, 256, 1024]⟩
abbrev S_ : Shape := ⟨0, ![]⟩

class Facts : Prop where
  slices_S8x256x2048_S8x256x1024_0_0_0 : S8x256x2048.Slices ![0, 0, 0] S8x256x1024
  bitsLt_bf16_f32 : FTy.bits .bf16 < FTy.bits .f32
  bcast_S_S1024 : S_.BroadcastsInDim S1024 (![] : Fin 0 → Fin S1024.rank)
  reducesTo_S1024_S_d0 : S1024.ReducesTo [0] S_
  h_S_ : 0 < S_.numel
  bcast_S_S8x256x1024 : S_.BroadcastsInDim S8x256x1024 (![] : Fin 0 → Fin S8x256x1024.rank)
  reducesTo_S8x256x1024_S_d0_1_2 : S8x256x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8x4096x1024 .f32) (main_arg1 : FVec F S1024 .f32) (main_arg2 : FVec F S8x256x2048 .bf16) (main_arg3 : FVec F S1024x1024 .f32) (main_arg4 : FVec F S1024x1024 .f32) : IVec S_ 1 :=
  let main_v0 : FVec F S8x256x1024 .bf16 := (extractStridedSlice S8x256x1024 ![0, 0, 0] · slices_S8x256x2048_S8x256x1024_0_0_0) main_arg2
  let main_v1 : FVec F S8x256x1024 .f32 := (extf .f32 · bitsLt_bf16_f32) main_v0
  let main_v2 : FVec F S1024 .f32 := Host.absf main_arg1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S8x256x1024 .f32 := Host.absf main_v1
  let main_cst_0 : FVec F S_ .f32 := constant S_ .f32 0x7F800000#32
  let main_v7 : FVec F S8x256x1024 .f32 := broadcastInDim S8x256x1024 ![] bcast_S_S8x256x1024 main_cst_0
  let main_v8 : IVec S8x256x1024 1 := cmpf .olt main_v6 main_v7
  let main_c_1 : IVec S_ 1 := constantI S_ 1 1#1
  let main_v9 : IVec S_ 1 := (fun x v => Host.reduce IntOp.andi x v reducesTo_S8x256x1024_S_d0_1_2 h_S_) main_v8 main_c_1
  let main_v10 : IVec S_ 1 := andi main_v5 main_v9
  let main_v11 : FVec F S1024x1024 .f32 := Host.absf main_arg3
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  let main_c_3 : IVec S_ 1 := constantI S_ 1 1#1
  let main_v14 : IVec S_ 1 := (fun x v => Host.reduce IntOp.andi x v reducesTo_S1024x1024_S_d0_1 h_S_) main_v13 main_c_3
  let main_v15 : IVec S_ 1 := andi main_v10 main_v14
  main_v15
-- ==== Merge.lean ====
abbrev S32768x1024 : Shape := ⟨2, ![32768, 1024]⟩
abbrev S32768x2048 : Shape := ⟨2, ![32768, 2048]⟩
abbrev S32768x8192 : Shape := ⟨2, ![32768, 8192]⟩
abbrev S2048x1024 : Shape := ⟨2, ![2048, 1024]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 11
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S32768x1024, .bf16⟩
  | .hbm, ⟨3, _⟩ => ⟨S32768x8192, .bf16⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S2048x1024, .bf16⟩
  | .hbm, ⟨8, _⟩ => ⟨S1024x1024, .bf16⟩
  | .hbm, ⟨9, _⟩ => ⟨S1024x1024, .bf16⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S2048x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S32768x1024 : Shape := ⟨2, ![32768, 1024]⟩
abbrev S32768x2048 : Shape := ⟨2, ![32768, 2048]⟩
abbrev S32768x8192 : Shape := ⟨2, ![32768, 8192]⟩
abbrev S2048x1024 : Shape := ⟨2, ![2048, 1024]⟩
abbrev S1024x1024 : Shape := ⟨2, ![1024, 1024]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x2048, .bf16⟩
  | .hbm, ⟨2, _⟩ => ⟨S32768x1024, .bf16⟩
  | .hbm, ⟨3, _⟩ => ⟨S32768x8192, .bf16⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S32768x1024, .bf16⟩
  | .hbm, ⟨8, _⟩ => ⟨S32768x1024, .f32⟩
  | .hbm, ⟨9, _⟩ => ⟨S32768x1024, .bf16⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S32768x2048, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Xattn.lean ====
abbrev S8x4096x1024 : Shape := ⟨3, ![8, 4096, 1024]⟩
abbrev S1024 : Shape := ⟨1, ![1024]⟩
abbrev S8x256x2048 : Shape := ⟨3, ![8, 256, 2048]⟩
abbrev S1024x1024 : Shape := ⟨2, ![1024, 1024]⟩
abbrev S1x1024 : Shape := ⟨2, ![1, 1024]⟩
abbrev S1x512x1024 : Shape := ⟨3, ![1, 512, 1024]⟩
abbrev S1x256x2048 : Shape := ⟨3, ![1, 256, 2048]⟩
abbrev S512x1024 : Shape := ⟨2, ![512, 1024]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S512x256 : Shape := ⟨2, ![512, 256]⟩

abbrev nBuf : Space → Nat
  | .hbm => 9
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x256x2048, .bf16⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x256x2048, .bf16⟩
  | .local _ .vmem, ⟨4, _⟩ => ⟨S1x256x2048, .bf16⟩
  | .local _ .vmem, ⟨5, _⟩ => ⟨S1024x1024, .bf16⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== XattnRefIdeal.lean ====
abbrev S8x4096x1024 : Shape := ⟨3, ![8, 4096, 1024]⟩
abbrev S1024 : Shape := ⟨1, ![1024]⟩
abbrev S8x256x2048 : Shape := ⟨3, ![8, 256, 2048]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4x256 : Shape := ⟨4, ![8, 4096, 4, 256]⟩
abbrev S8x256x1024 : Shape := ⟨3, ![8, 256, 1024]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x256x2048, .bf16⟩
  | .hbm, ⟨3, _⟩ => ⟨S1024x1024, .f32⟩
  | .hbm, ⟨4, _⟩ => ⟨S1024x1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x4x256, .f32⟩
  | .hbm, ⟨23, _⟩ => ⟨S8x256x2048, .f32⟩
  | .hbm, ⟨24, _⟩ => ⟨S8x256x1024, .f32⟩
  | .hbm, ⟨25, _⟩ => ⟨S8x256x1024, .f32⟩
  | .hbm, ⟨26, _⟩ => ⟨S8x256x4x256, .f32⟩
  | .hbm, ⟨27, _⟩ => ⟨S8x256x4x256, .f32⟩
  | .hbm, ⟨28, _⟩ => ⟨S8x4x4096x256, .f32⟩
  | .hbm, ⟨29, _⟩ => ⟨S_, .f32⟩
  | .hbm, ⟨30, _⟩ => ⟨S8x4x4096x256, .f32⟩
  | .hbm, ⟨31, _⟩ => ⟨S8x4x4096x256, .f32⟩
  | .hbm, ⟨32, _⟩ => ⟨S_, .f32⟩
  | .hbm, ⟨33, _⟩ => ⟨S8x4x4096, .f32⟩
  | .hbm, ⟨34, _⟩ => ⟨S_, .f32⟩
  | .hbm, ⟨35, _⟩ => ⟨S8x4x4096, .f32⟩
  | .hbm, ⟨36, _⟩ => ⟨S8x4x4096, .f32⟩
  | .hbm, ⟨37, _⟩ => ⟨S8x4x4096x1, .f32⟩
  | .hbm, ⟨38, _⟩ => ⟨S8x4x4096x256, .f32⟩
  | .hbm, ⟨39, _⟩ => ⟨S8x4x4096x256, .f32⟩
  | .hbm, ⟨40, _⟩ => ⟨S8x4x4096x256, .f32⟩
  | .hbm, ⟨41, _⟩ => ⟨S_, .f32⟩
  | .hbm, ⟨42, _⟩ => ⟨S8x4x4096, .f32⟩
  | .hbm, ⟨43, _⟩ => ⟨S8x4x4096x1, .f32⟩
  | .hbm, ⟨44, _⟩ => ⟨S8x4x4096x256, .f32⟩
  | .hbm, ⟨45, _⟩ => ⟨S8x4x4096x256, .f32⟩
  | .hbm, ⟨46, _⟩ => ⟨S8x4x256x4096, .f32⟩
  | .hbm, ⟨47, _⟩ => ⟨S8x4096x4x256, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Experts.lean ====
abbrev S68 : Shape := ⟨1, ![68]⟩
abbrev S1 : Shape := ⟨1, ![1]⟩
abbrev S34816x1152 : Shape := ⟨2, ![34816, 1152]⟩
abbrev S4x8x1024x256 : Shape := ⟨4, ![4, 8, 1024, 256]⟩
abbrev S4x8x256x1024 : Shape := ⟨4, ![4, 8, 256, 1024]⟩
abbrev S34816x1024 : Shape := ⟨2, ![34816, 1024]⟩
abbrev S512x1024 : Shape := ⟨2, ![512, 1024]⟩
abbrev S512x128 : Shape := ⟨2, ![512, 128]⟩
abbrev S1x8x1024x256 : Shape := ⟨4, ![1, 8, 1024, 256]⟩
abbrev S1x8x256x1024 : Shape := ⟨4, ![1, 8, 256, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 8
  | .vmem => 12
  | .smem => 2
  | _ => 0

abbrev bufTy : (tb : Table) → Fin (tcTables nBuf tb) → BufTy
  | .hbm, ⟨0, _⟩ => ⟨S34816x1152, .f32⟩
  | .hbm, ⟨1, _⟩ => ⟨S4x8x1024x256, .f32⟩
  | .hbm, ⟨2, _⟩ => ⟨S4x8x1024x256, .f32⟩
  | .hbm, ⟨3, _⟩ => ⟨S4x8x256x1024, .f32⟩
  | .hbm, ⟨4, _⟩ => ⟨S4x8x1024x256, .bf16⟩
  | .hbm, ⟨5, _⟩ => ⟨S4x8x1024x256, .bf16⟩
  | .hbm, ⟨6, _⟩ => ⟨S4x8x256x1024, .bf16⟩
  | .hbm, ⟨7, _⟩ => ⟨S34816x1024, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S1x8x1024x256, .bf16⟩
  | .local _ .vmem, ⟨5, _⟩ => ⟨S1x8x1024x256, .bf16⟩
  | .local _ .vmem, ⟨6, _⟩ => ⟨S1x8x1024x256, .bf16⟩
  | .local _ .vmem, ⟨7, _⟩ => ⟨S1x8x1024x256, .bf16⟩
  | .local _ .vmem, ⟨8, _⟩ => ⟨S1x8x256x1024, .bf16⟩
  | .local _ .vmem, ⟨9, _⟩ => ⟨S1x8x256x1024, .bf16⟩
  | .local _ .vmem, ⟨10, _⟩ => ⟨S512x1024, .f32⟩
  | .local _ .vmem, ⟨11, _⟩ => ⟨S512x1024, .f32⟩
  | .local _ .smem, ⟨0, _⟩ => ⟨S68, .i32⟩
  | .local _ .smem, ⟨1, _⟩ => ⟨S1, .i32⟩
  | _, _ => ⟨S34816x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![68], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v10 : Index := Scalar.indexCast arg0
  ![v10.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (k0_off1_inb : ∀ i : grid0.Coords, ∀ a, (k0_off1 i) a + S1.size a ≤ S68.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (k0_off1_inb : ∀ i : grid0.Coords, ∀ a, (k0_off1 i) a + S1.size a ≤ S68.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (k0_off1_inb : ∀ i : grid0.Coords, ∀ a, (k0_off1 i) a + S1.size a ≤ S68.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsRefIdeal.lean ====
abbrev S68 : Shape := ⟨1, ![68]⟩
abbrev S1 : Shape := ⟨1, ![1]⟩
abbrev S34816x1152 : Shape := ⟨2, ![34816, 1152]⟩
abbrev S4x8x1024x256 : Shape := ⟨4, ![4, 8, 1024, 256]⟩
abbrev S4x8x256x1024 : Shape := ⟨4, ![4, 8, 256, 1024]⟩
abbrev S34816x1024 : Shape := ⟨2, ![34816, 1024]⟩
abbrev S_ : Shape := ⟨0, ![]⟩
abbrev S68x1 : Shape := ⟨2, ![68, 1]⟩
abbrev S68x512 : Shape := ⟨2, ![68, 512]⟩
abbrev S34816 : Shape := ⟨1, ![34816]⟩
abbrev S34816x32 : Shape := ⟨2, ![34816, 32]⟩
abbrev S34816x4x8 : Shape := ⟨3, ![34816, 4, 8]⟩
abbrev S34816x1x1 : Shape := ⟨3, ![34816, 1, 1]⟩
abbrev S4 : Shape := ⟨1, ![4]⟩
abbrev S1x4x1 : Shape := ⟨3, ![1, 4, 1]⟩
abbrev S34816x4x1 : Shape := ⟨3, ![34816, 4, 1]⟩
abbrev S1x8x1024x256 : Shape := ⟨4, ![1, 8, 1024, 256]⟩
abbrev S8x1024x256 : Shape := ⟨3, ![8, 1024, 256]⟩
abbrev S34816x8x256 : Shape := ⟨3, ![34816, 8, 256]⟩
abbrev S34816x1x8 : Shape := ⟨3, ![34816, 1, 8]⟩
abbrev S34816x8 : Shape := ⟨2, ![34816, 8]⟩
abbrev S34816x8x1 : Shape := ⟨3, ![34816, 8, 1]⟩
abbrev S1x8x256x1024 : Shape := ⟨4, ![1, 8, 256, 1024]⟩
abbrev S8x256x1024 : Shape := ⟨3, ![8, 256, 1024]⟩

abbrev nBuf : Space → Nat
  | .hbm => 132
  | .vmem => 0
  | .smem => 0
  | _ => 0

abbrev hbmTy0_0 (i : Nat) : BufTy := match i % 128 with
  | 0 => ⟨S68, .i32⟩
  | 1 => ⟨S1, .i32⟩
  | 2 => ⟨S34816x1152, .f32⟩
  | 3 => ⟨S4x8x1024x256, .f32⟩
  | 4 => ⟨S4x8x1024x256, .f32⟩
  | 5 => ⟨S4x8x256x1024, .f32⟩
  | 6 => ⟨S34816x1024, .f32⟩
  | 7 => ⟨S68, .i32⟩
  | 8 => ⟨S68, .i32⟩
  | 9 => ⟨S68, .i1⟩
  | 10 => ⟨S_, .i32⟩
  | 11 => ⟨S_, .i32⟩
  | 12 => ⟨S68, .i32⟩
  | 13 => ⟨S68, .i32⟩
  | 14 => ⟨S68x1, .i32⟩
  | 15 => ⟨S68x512, .i32⟩
  | 16 => ⟨S34816, .i32⟩
  | 17 => ⟨S34816x32, .f32⟩
  | 18 => ⟨S34816x4x8, .f32⟩
  | 19 => ⟨S34816x1x1, .i32⟩
  | 20 => ⟨S4, .i32⟩
  | 21 => ⟨S1x4x1, .i32⟩
  | 22 => ⟨S34816x4x1, .i32⟩
  | 23 => ⟨S34816x4x1, .i32⟩
  | 24 => ⟨S34816x4x1, .i1⟩
  | 25 => ⟨S_, .f32⟩
  | 26 => ⟨S_, .f32⟩
  | 27 => ⟨S34816x4x8, .i1⟩
  | 28 => ⟨S34816x4x8, .f32⟩
  | 29 => ⟨S34816x4x8, .f32⟩
  | 30 => ⟨S_, .f32⟩
  | 31 => ⟨S34816x1024, .f32⟩
  | 32 => ⟨S1x8x1024x256, .f32⟩
  | 33 => ⟨S8x1024x256, .f32⟩
  | 34 => ⟨S34816x8x256, .f32⟩
  | 35 => ⟨S34816x8x256, .f32⟩
  | 36 => ⟨S34816x8x256, .f32⟩
  | 37 => ⟨S_, .f32⟩
  | 38 => ⟨S34816x8x256, .f32⟩
  | 39 => ⟨S34816x8x256, .f32⟩
  | 40 => ⟨S_, .f32⟩
  | 41 => ⟨S34816x8x256, .f32⟩
  | 42 => ⟨S34816x8x256, .f32⟩
  | 43 => ⟨S34816x8x256, .f32⟩
  | 44 => ⟨S1x8x1024x256, .f32⟩
  | 45 => ⟨S8x1024x256, .f32⟩
  | 46 => ⟨S34816x8x256, .f32⟩
  | 47 => ⟨S34816x8x256, .f32⟩
  | 48 => ⟨S34816x1x8, .f32⟩
  | 49 => ⟨S34816x8, .f32⟩
  | 50 => ⟨S34816x8x1, .f32⟩
  | 51 => ⟨S34816x8x256, .f32⟩
  | 52 => ⟨S34816x8x256, .f32⟩
  | 53 => ⟨S1x8x256x1024, .f32⟩
  | 54 => ⟨S8x256x1024, .f32⟩
  | 55 => ⟨S34816x1024, .f32⟩
  | 56 => ⟨S34816x1024, .f32⟩
  | 57 => ⟨S1x8x1024x256, .f32⟩
  | 58 => ⟨S8x1024x256, .f32⟩
  | 59 => ⟨S34816x8x256, .f32⟩
  | 60 => ⟨S34816x8x256, .f32⟩
  | 61 => ⟨S34816x8x256, .f32⟩
  | 62 => ⟨S_, .f32⟩
  | 63 => ⟨S34816x8x256, .f32⟩
  | 64 => ⟨S34816x8x256, .f32⟩
  | 65 => ⟨S_, .f32⟩
  | 66 => ⟨S34816x8x256, .f32⟩
  | 67 => ⟨S34816x8x256, .f32⟩
  | 68 => ⟨S34816x8x256, .f32⟩
  | 69 => ⟨S1x8x1024x256, .f32⟩
  | 70 => ⟨S8x1024x256, .f32⟩
  | 71 => ⟨S34816x8x256, .f32⟩
  | 72 => ⟨S34816x8x256, .f32⟩
  | 73 => ⟨S34816x1x8, .f32⟩
  | 74 => ⟨S34816x8, .f32⟩
  | 75 => ⟨S34816x8x1, .f32⟩
  | 76 => ⟨S34816x8x256, .f32⟩
  | 77 => ⟨S34816x8x256, .f32⟩
  | 78 => ⟨S1x8x256x1024, .f32⟩
  | 79 => ⟨S8x256x1024, .f32⟩
  | 80 => ⟨S34816x1024, .f32⟩
  | 81 => ⟨S34816x1024, .f32⟩
  | 82 => ⟨S1x8x1024x256, .f32⟩
  | 83 => ⟨S8x1024x256, .f32⟩
  | 84 => ⟨S34816x8x256, .f32⟩
  | 85 => ⟨S34816x8x256, .f32⟩
  | 86 => ⟨S34816x8x256, .f32⟩
  | 87 => ⟨S_, .f32⟩
  | 88 => ⟨S34816x8x256, .f32⟩
  | 89 => ⟨S34816x8x256, .f32⟩
  | 90 => ⟨S_, .f32⟩
  | 91 => ⟨S34816x8x256, .f32⟩
  | 92 => ⟨S34816x8x256, .f32⟩
  | 93 => ⟨S34816x8x256, .f32⟩
  | 94 => ⟨S1x8x1024x256, .f32⟩
  | 95 => ⟨S8x1024x256, .f32⟩
  | 96 => ⟨S34816x8x256, .f32⟩
  | 97 => ⟨S34816x8x256, .f32⟩
  | 98 => ⟨S34816x1x8, .f32⟩
  | 99 => ⟨S34816x8, .f32⟩
  | 100 => ⟨S34816x8x1, .f32⟩
  | 101 => ⟨S34816x8x256, .f32⟩
  | 102 => ⟨S34816x8x256, .f32⟩
  | 103 => ⟨S1x8x256x1024, .f32⟩
  | 104 => ⟨S8x256x1024, .f32⟩
  | 105 => ⟨S34816x1024, .f32⟩
  | 106 => ⟨S34816x1024, .f32⟩
  | 107 => ⟨S1x8x1024x256, .f32⟩
  | 108 => ⟨S8x1024x256, .f32⟩
  | 109 => ⟨S34816x8x256, .f32⟩
  | 110 => ⟨S34816x8x256, .f32⟩
  | 111 => ⟨S34816x8x256, .f32⟩
  | 112 => ⟨S_, .f32⟩
  | 113 => ⟨S34816x8x256, .f32⟩
  | 114 => ⟨S34816x8x256, .f32⟩
  | 115 => ⟨S_, .f32⟩
  | 116 => ⟨S34816x8x256, .f32⟩
  | 117 => ⟨S34816x8x256, .f32⟩
  | 118 => ⟨S34816x8x256, .f32⟩
  | 119 => ⟨S1x8x1024x256, .f32⟩
  | 120 => ⟨S8x1024x256, .f32⟩
  | 121 => ⟨S34816x8x256, .f32⟩
  | 122 => ⟨S34816x8x256, .f32⟩
  | 123 => ⟨S34816x1x8, .f32⟩
  | 124 => ⟨S34816x8, .f32⟩
  | 125 => ⟨S34816x8x1, .f32⟩
  | 126 => ⟨S34816x8x256, .f32⟩
  | 127 => ⟨S34816x8x256, .f32⟩
  | _ => ⟨S68, .i32⟩

abbrev hbmTy0_1 (i : Nat) : BufTy := match i % 128 with
  | 0 => ⟨S1x8x256x1024, .f32⟩
  | 1 => ⟨S8x256x1024, .f32⟩
  | 2 => ⟨S34816x1024, .f32⟩
  | 3 => ⟨S34816x1024, .f32⟩
  | _ => ⟨S68, .i32⟩

abbrev hbmTy (i : Nat) : BufTy := match i / 128 with
  | 0 => hbmTy0_0 i
  | 1 => hbmTy0_1 i
  | _ => ⟨S68, .i32⟩

abbrev bufTy : (tb : Table) → Fin (tcTables nBuf tb) → BufTy
  | .hbm, ⟨i, _⟩ => hbmTy i
  | _, _ => ⟨S68, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call2_v0 : Ref sig .tc := ⟨.hbm, 35, rfl⟩
abbrev main_call2_v1 : Ref sig .tc := ⟨.hbm, 36, rfl⟩
abbrev main_call2_cst : Ref sig .tc := ⟨.hbm, 37, rfl⟩
abbrev main_call2_v2 : Ref sig .tc := ⟨.hbm, 38, rfl⟩
abbrev main_call2_v3 : Ref sig .tc := ⟨.hbm, 39, rfl⟩
abbrev main_call2_cst_0 : Ref sig .tc := ⟨.hbm, 40, rfl⟩
abbrev main_call2_v4 : Ref sig .tc := ⟨.hbm, 41, rfl⟩
abbrev main_call2_v5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call3_v0 : Ref sig .tc := ⟨.hbm, 60, rfl⟩
abbrev main_call3_v1 : Ref sig .tc := ⟨.hbm, 61, rfl⟩
abbrev main_call3_cst : Ref sig .tc := ⟨.hbm, 62, rfl⟩
abbrev main_call3_v2 : Ref sig .tc := ⟨.hbm, 63, rfl⟩
abbrev main_call3_v3 : Ref sig .tc := ⟨.hbm, 64, rfl⟩
abbrev main_call3_cst_0 : Ref sig .tc := ⟨.hbm, 65, rfl⟩
abbrev main_call3_v4 : Ref sig .tc := ⟨.hbm, 66, rfl⟩
abbrev main_call3_v5 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call4_v0 : Ref sig .tc := ⟨.hbm, 85, rfl⟩
abbrev main_call4_v1 : Ref sig .tc := ⟨.hbm, 86, rfl⟩
abbrev main_call4_cst : Ref sig .tc := ⟨.hbm, 87, rfl⟩
abbrev main_call4_v2 : Ref sig .tc := ⟨.hbm, 88, rfl⟩
abbrev main_call4_v3 : Ref sig .tc := ⟨.hbm, 89, rfl⟩
abbrev main_call4_cst_0 : Ref sig .tc := ⟨.hbm, 90, rfl⟩
abbrev main_call4_v4 : Ref sig .tc := ⟨.hbm, 91, rfl⟩
abbrev main_call4_v5 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_call5_v0 : Ref sig .tc := ⟨.hbm, 110, rfl⟩
abbrev main_call5_v1 : Ref sig .tc := ⟨.hbm, 111, rfl⟩
abbrev main_call5_cst : Ref sig .tc := ⟨.hbm, 112, rfl⟩
abbrev main_call5_v2 : Ref sig .tc := ⟨.hbm, 113, rfl⟩
abbrev main_call5_v3 : Ref sig .tc := ⟨.hbm, 114, rfl⟩
abbrev main_call5_cst_0 : Ref sig .tc := ⟨.hbm, 115, rfl⟩
abbrev main_call5_v4 : Ref sig .tc := ⟨.hbm, 116, rfl⟩
abbrev main_call5_v5 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x9216 : Shape := ⟨2, ![1024, 9216]⟩
abbrev S4096x32 : Shape := ⟨2, ![4096, 32]⟩
abbrev S4096x128 : Shape := ⟨2, ![4096, 128]⟩
abbrev S1x1024 : Shape := ⟨2, ![1, 1024]⟩
abbrev S32768x8192 : Shape := ⟨2, ![32768, 8192]⟩
abbrev S1024x1024 : Shape := ⟨2, ![1024, 1024]⟩
abbrev S1024x128 : Shape := ⟨2, ![1024, 128]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9216, .f32⟩
  | .hbm, ⟨3, _⟩ => ⟨S4096x32, .f32⟩
  | .hbm, ⟨4, _⟩ => ⟨S4096x32, .f32⟩
  | .hbm, ⟨5, _⟩ => ⟨S4096x128, .f32⟩
  | .hbm, ⟨6, _⟩ => ⟨S4096x32, .f32⟩
  | .hbm, ⟨7, _⟩ => ⟨S4096x32, .f32⟩
  | .hbm, ⟨8, _⟩ => ⟨S4096x128, .f32⟩
  | .hbm, ⟨9, _⟩ => ⟨S1024x9216, .bf16⟩
  | .hbm, ⟨10, _⟩ => ⟨S1x1024, .f32⟩
  | .hbm, ⟨11, _⟩ => ⟨S32768x8192, .bf16⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 9], ![false, false]⟩

def k0_cond2 (i : grid0.Coords) : BitVec 1 :=
  let arg1 : BitVec 32 := BitVec.ofNat 32 (i 1).val
  let c5_i32 : BitVec 32 := 5#32
  let v7 : BitVec 1 := Scalar.cmpi .eq arg1 c5_i32
  let v8 : BitVec 32 := Scalar.extui v7
  let c0_i32_4 : BitVec 32 := 0#32
  let v9 : BitVec 1 := Scalar.cmpi .ne v8 c0_i32_4
  v9

def k0_cond4 (i : grid0.Coords) : BitVec 1 :=
  let arg1 : BitVec 32 := BitVec.ofNat 32 (i 1).val
  let c5_i32_6 : BitVec 32 := 5#32
  let v13 : BitVec 1 := Scalar.cmpi .ne arg1 c5_i32_6
  let c8_i32_7 : BitVec 32 := 8#32
  let v14 : BitVec 1 := Scalar.cmpi .ne arg1 c8_i32_7
  let v15 : BitVec 1 := Scalar.andi v13 v14
  let v16 : BitVec 32 := Scalar.extui v15
  let c0_i32_8 : BitVec 32 := 0#32
  let v17 : BitVec 1 := Scalar.cmpi .ne v16 c0_i32_8
  v17

def k0_cond3 (i : grid0.Coords) : BitVec 1 :=
  let arg1 : BitVec 32 := BitVec.ofNat 32 (i 1).val
  let c8_i32 : BitVec 32 := 8#32
  let v10 : BitVec 1 := Scalar.cmpi .eq arg1 c8_i32
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InprojRefIdeal.lean ====
abbrev S32768x1024 : Shape := ⟨2, ![32768, 1024]⟩
abbrev S1024 : Shape := ⟨1, ![1024]⟩
abbrev S1024x9216 : Shape := ⟨2, ![1024, 9216]⟩
abbrev S4096x32 : Shape := ⟨2, ![4096, 32]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x9216 : Shape := ⟨2, ![32768, 9216]⟩
abbrev S8x4096x72x128 : Shape := ⟨4, ![8, 4096, 72, 128]⟩
abbrev S8x4096x72x64 : Shape := ⟨4, ![8, 4096, 72, 64]⟩
abbrev S8x4096x72x2x32 : Shape := ⟨5, ![8, 4096, 72, 2, 32]⟩
abbrev S1x4096x1x1x32 : Shape := ⟨5, ![1, 4096, 1, 1, 32]⟩
abbrev S32768x5120 : Shape := ⟨2, ![32768, 5120]⟩
abbrev S32768x2048 : Shape := ⟨2, ![32768, 2048]⟩
abbrev S32768x8192 : Shape := ⟨2, ![32768, 8192]⟩
abbrev S32768x640 : Shape := ⟨2, ![32768, 640]⟩
abbrev S32768x128 : Shape := ⟨2, ![32768, 128]⟩

abbrev nBuf : Space → Nat
  | .hbm => 53
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x9216, .f32⟩
  | .hbm, ⟨3, _⟩ => ⟨S4096x32, .f32⟩
  | .hbm, ⟨4, _⟩ => ⟨S4096x32, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x9216, .f32⟩
  | .hbm, ⟨22, _⟩ => ⟨S8x4096x72x128, .f32⟩
  | .hbm, ⟨23, _⟩ => ⟨S8x4096x72x64, .f32⟩
  | .hbm, ⟨24, _⟩ => ⟨S8x4096x72x2x32, .f32⟩
  | .hbm, ⟨25, _⟩ => ⟨S8x4096x72x64, .f32⟩
  | .hbm, ⟨26, _⟩ => ⟨S8x4096x72x2x32, .f32⟩
  | .hbm, ⟨27, _⟩ => ⟨S1x4096x1x1x32, .f32⟩
  | .hbm, ⟨28, _⟩ => ⟨S1x4096x1x1x32, .f32⟩
  | .hbm, ⟨29, _⟩ => ⟨S8x4096x72x2x32, .f32⟩
  | .hbm, ⟨30, _⟩ => ⟨S8x4096x72x2x32, .f32⟩
  | .hbm, ⟨31, _⟩ => ⟨S8x4096x72x2x32, .f32⟩
  | .hbm, ⟨32, _⟩ => ⟨S8x4096x72x2x32, .f32⟩
  | .hbm, ⟨33, _⟩ => ⟨S8x4096x72x2x32, .f32⟩
  | .hbm, ⟨34, _⟩ => ⟨S8x4096x72x64, .f32⟩
  | .hbm, ⟨35, _⟩ => ⟨S8x4096x72x2x32, .f32⟩
  | .hbm, ⟨36, _⟩ => ⟨S8x4096x72x2x32, .f32⟩
  | .hbm, ⟨37, _⟩ => ⟨S8x4096x72x2x32, .f32⟩
  | .hbm, ⟨38, _⟩ => ⟨S8x4096x72x2x32, .f32⟩
  | .hbm, ⟨39, _⟩ => ⟨S8x4096x72x2x32, .f32⟩
  | .hbm, ⟨40, _⟩ => ⟨S8x4096x72x64, .f32⟩
  | .hbm, ⟨41, _⟩ => ⟨S8x4096x72x128, .f32⟩
  | .hbm, ⟨42, _⟩ => ⟨S32768x9216, .f32⟩
  | .hbm, ⟨43, _⟩ => ⟨S32768x5120, .f32⟩
  | .hbm, ⟨44, _⟩ => ⟨S32768x1024, .f32⟩
  | .hbm, ⟨45, _⟩ => ⟨S32768x2048, .f32⟩
  | .hbm, ⟨46, _⟩ => ⟨S32768x8192, .f32⟩
  | .hbm, ⟨47, _⟩ => ⟨S32768x640, .f32⟩
  | .hbm, ⟨48, _⟩ => ⟨S32768x128, .f32⟩
  | .hbm, ⟨49, _⟩ => ⟨S32768x128, .f32⟩
  | .hbm, ⟨50, _⟩ => ⟨S32768x128, .f32⟩
  | .hbm, ⟨51, _⟩ => ⟨S32768x1024, .f32⟩
  | .hbm, ⟨52, _⟩ => ⟨S32768x8192, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩

abbrev nD : Nat := 1
abbrev τ : Topo := Topo.v7x

variable {F : FTy → Type} [FloatOps F]
-- ==== Memkv.lean ====
abbrev S2048x1024 : Shape := ⟨2, ![2048, 1024]⟩
abbrev S1024 : Shape := ⟨1, ![1024]⟩
abbrev S1024x2048 : Shape := ⟨2, ![1024, 2048]⟩
abbrev S1x1024 : Shape := ⟨2, ![1, 1024]⟩
abbrev S2048x2048 : Shape := ⟨2, ![2048, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S2048x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MemkvRefIdeal.lean ====
abbrev S2048x1024 : Shape := ⟨2, ![2048, 1024]⟩
abbrev S1024 : Shape := ⟨1, ![1024]⟩
abbrev S1024x2048 : Shape := ⟨2, ![1024, 2048]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2048 : Shape := ⟨2, ![2048, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x2048, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x2048, .f32⟩
  | .hbm, ⟨20, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.MergeValue.lean ====
/- The merge kernel's value, hand-written: the layer's merge as one function of the arguments, entry by entry; the kernel's
   result array is that function, and so is the reference's. -/
module

public import proofs.«01_k».proof.Defs
public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Tactic.CleanTypes

@[expose] public section

set_option maxRecDepth 16384

noncomputable section

namespace Cert.Proof.MergeValue

open Idealize.ShloMosaic Idealize.ShloMosaic.TcCoe Idealize.SL.Sem
open Idealize.ShloMosaic.Pipeline (Dat)

/-- The merge of the two branches, entry `i` of token `i 0`: the residual plus the gated branches through the output
    matrix. The gates stand at columns 6144 and 7168 of the projection `x3`. -/
def merged (x0 : Vec Ideal Cert.MergeIdeal.S32768x1024 .f32) (x1 : Vec Ideal Cert.MergeIdeal.S32768x2048 .bf16)
    (x2 : Vec Ideal Cert.MergeIdeal.S32768x1024 .bf16) (x3 : Vec Ideal Cert.MergeIdeal.S32768x8192 .bf16)
    (x4 : Vec Ideal Cert.MergeIdeal.S2048x1024 .f32) (x5 x6 : Vec Ideal Cert.MergeIdeal.S1024x1024 .f32) :
    Vec Ideal Cert.MergeIdeal.S32768x1024 .f32 := fun i =>
  x0 (ix2 (i 0) (i 1)) + ∑ k : Fin 1024,
    (Ideal.logistic (x3 (ix2 (i 0) (⟨6144 + k.val, by have := k.isLt; omega⟩ : Fin 8192)))
        * (∑ j : Fin 2048, x1 (ix2 (i 0) j) * x4 (ix2 j k))
      + Ideal.logistic (x3 (ix2 (i 0) (⟨7168 + k.val, by have := k.isLt; omega⟩ : Fin 8192)))
        * (∑ j : Fin 1024, x2 (ix2 (i 0) j) * x5 (ix2 j k))) * x6 (ix2 k (i 1))

section Kernel
open Cert.MergeIdeal Cert.MergeIdeal.Gen

variable (m : (ℓ : Loc nD τ sig) → Buf (Elt Ideal) ℓ) (ρ : Dev nD → PrngReg)

/-- Where each window's block stands at a point. -/
theorem index_facts : ∀ t : Fin grid0.N,
    win0_0.index t = ![t.val, 0] ∧ win0_1.index t = ![t.val, 0] ∧ win0_2.index t = ![t.val, 0]
    ∧ win0_3.index t = ![t.val, 6] ∧ win0_4.index t = ![t.val, 7] ∧ win0_5.index t = ![0, 0]
    ∧ win0_6.index t = ![0, 0] ∧ win0_7.index t = ![0, 0] ∧ win0_8.index t = ![t.val, 0] := by
  decide +kernel

/-- The kernel's result array after its run. -/
theorem final (c : Dev nD) : (dats m 0 c).arrAt 8 cfg0.N
    = merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 8 _ (by decide +kernel) fun t hf y => ?_
  blk_simp
  rw [after0_8]
  frame_out
  unfold merged
  idx_vars y
  pointwise [k0_pay1]
  blk_point [iblk, V, index_facts t]

end Kernel

/-- At the ideal instance the kernel and the reference end with the same result: both hold `merged` of the arguments. -/
theorem algebraic : Cert.algebraic_MergeIdeal_MergeRefIdeal (hMergeIdeal := Cert.MergeIdeal.Gen.facts)
    (hMergeRefIdeal := Cert.MergeRefIdeal.Gen.facts) := by
  intro m ρ m' ρ' _ hagree
  refine ⟨fun c => merged (m ((c.tc : Thread Cert.MergeIdeal.nD Cert.MergeIdeal.τ).loc Cert.MergeIdeal.main_arg0)) (m ((c.tc : Thread Cert.MergeIdeal.nD Cert.MergeIdeal.τ).loc Cert.MergeIdeal.main_arg1))
    (m ((c.tc : Thread Cert.MergeIdeal.nD Cert.MergeIdeal.τ).loc Cert.MergeIdeal.main_arg2)) (m ((c.tc : Thread Cert.MergeIdeal.nD Cert.MergeIdeal.τ).loc Cert.MergeIdeal.main_arg3))
    (m ((c.tc : Thread Cert.MergeIdeal.nD Cert.MergeIdeal.τ).loc Cert.MergeIdeal.main_arg4)) (m ((c.tc : Thread Cert.MergeIdeal.nD Cert.MergeIdeal.τ).loc Cert.MergeIdeal.main_arg5))
    (m ((c.tc : Thread Cert.MergeIdeal.nD Cert.MergeIdeal.τ).loc Cert.MergeIdeal.main_arg6)), ?_, ?_⟩
  · exact (θ_run Cert.MergeIdeal.defs _ _).mono (fun _ h c => ⟨(h c).1.trans (final m c), (h c).2⟩)
      (Cert.MergeIdeal.Value.run_blocks m ρ)
  · refine (θ_run Cert.MergeRefIdeal.defs _ _).mono (fun _ h c => ⟨(h c).1.trans ?_, (h c).2⟩)
      (Cert.MergeRefIdeal.Value.run m' ρ')
    obtain ⟨e0, e1, e2, e3, e4, e5, e6⟩ := hagree c
    beta_reduce
    rw [← e0, ← e1, ← e2, ← e3, ← e4, ← e5, ← e6]
    funext y
    unfold merged
    clean_types
    idx_vars y
    pointwise
    rfl

end Cert.Proof.MergeValue

end
-- ==== Proof.XattnValue.lean ====
/- The cross-attention kernel's value, hand-written: one token's attention over the memory as a function of its row, the
   keys, the values and the matrices; the kernel's result array entry by entry. -/
module

public import proofs.«01_k».proof.Defs
public import proofs.«01_k».proof.Proof.Gen.XattnIdeal.Value
public import Idealize.ShloMosaic.Lib.Pipeline.ValueKit
public import Idealize.ShloMosaic.Lib.Pointwise
public import Idealize.ShloMosaic.Lib.IdealHost
public import Idealize.ShloMosaic.Lib.Claim

@[expose] public section

set_option maxRecDepth 16384

noncomputable section

namespace Cert.Proof.XattnValue

open Idealize.ShloMosaic Idealize.ShloMosaic.TcCoe Idealize.SL.Sem
open Idealize.ShloMosaic.Pipeline (Dat)

/-- One over the root of a token's mean square, with the stabilizing constant. -/
def rootInv (h : Fin 1024 → EReal) : EReal :=
  Ideal.rsqrt (Ideal.div (∑ j, h j * h j) (Ideal.ofBits .f32 0x44800000#32) + Ideal.ofBits .f32 0x358637BD#32)

/-- A token's query, over all four heads. -/
def query (h g : Fin 1024 → EReal) (wq : Fin 1024 → Fin 1024 → EReal) (n : Fin 1024) : EReal :=
  ∑ j, h j * rootInv h * g j * wq j n

/-- The scale of the scores. -/
def scale : EReal := Ideal.ofBits .f32 0x3D800000#32

/-- Where a maximum starts. -/
def bottom : EReal := Ideal.ofBits .f32 0xFF800000#32

/-- Column `d` of the head to which column `x` belongs. -/
def col (x : Fin 1024) (d : Fin 256) : Fin 1024 := ⟨x.val / 256 * 256 + d.val, by have := x.isLt; have := d.isLt; omega⟩

/-- The score of one memory row with the query scaled first. -/
def scoreEarly (q key : Fin 1024 → EReal) (x : Fin 1024) : EReal := ∑ d : Fin 256, (q (col x d) * scale) * key (col x d)

/-- The score of one memory row with the product scaled. -/
def scoreLate (q key : Fin 1024 → EReal) (x : Fin 1024) : EReal := (∑ d : Fin 256, q (col x d) * key (col x d)) * scale

/-- Attention with the weighted sum divided by the sum of the weights. -/
def headEarly (s v : Fin 256 → EReal) : EReal :=
  Ideal.div (∑ i, Ideal.exp (s i - Finset.univ.fold max bottom s) * v i) (∑ i, Ideal.exp (s i - Finset.univ.fold max bottom s))

/-- Attention with each weight divided before the weighted sum. -/
def headLate (s v : Fin 256 → EReal) : EReal :=
  ∑ i, v i * Ideal.div (Ideal.exp (s i - max bottom (Finset.univ.fold max bottom s)))
    (∑ i, Ideal.exp (s i - max bottom (Finset.univ.fold max bottom s)))

/-- The kernel's result, entry `n` of one token: its row `h`, the memory's keys and values, the matrices. -/
def attendEarly (h g : Fin 1024 → EReal) (key val : Fin 256 → Fin 1024 → EReal) (wq wo : Fin 1024 → Fin 1024 → EReal)
    (n : Fin 1024) : EReal :=
  h n + ∑ x, headEarly (fun i => scoreEarly (query h g wq) (key i) x) (fun i => val i x) * wo x n

/-- The reference's. -/
def attendLate (h g : Fin 1024 → EReal) (key val : Fin 256 → Fin 1024 → EReal) (wq wo : Fin 1024 → Fin 1024 → EReal)
    (n : Fin 1024) : EReal :=
  h n + ∑ x, headLate (fun i => scoreLate (query h g wq) (key i) x) (fun i => val i x) * wo x n

section Kernel
open Cert.XattnIdeal Cert.XattnIdeal.Gen

/-- Column `x` of the keys, of a block or an array `2048` wide. -/
def keyCol (x : Fin 1024) : Fin 2048 := ⟨x.val, by have := x.isLt; omega⟩
/-- Column `x` of the values. -/
def valCol (x : Fin 1024) : Fin 2048 := ⟨1024 + x.val, by have := x.isLt; omega⟩

/-- An entry of one head, from the queries of the head's columns. -/
def headOf (q : Fin 256 → EReal) (k : Vec Ideal S1x256x256 .bf16) (v : Vec Ideal S1x256x256 .bf16) (n : Fin 256) : EReal :=
  headEarly (fun i => ∑ d : Fin 256, q d * k (ix3 0 i d)) (fun i => v (ix3 0 i n))

theorem query_entry (x0 : Vec Ideal S1x512x1024 .f32) (x1 : Vec Ideal S1x1024 .f32) (x3 : Vec Ideal S1024x1024 .bf16)
    (r : Fin 512) (n : Fin 1024) :
    k0_pay3 x0 x1 x3 (ix2 r n)
      = query (fun j => x0 (ix3 0 r j)) (fun j => x1 (ix2 0 j)) (fun j k => x3 (ix2 j k)) n * scale := by
  unfold query rootInv scale
  pointwise [k0_pay2, k0_pay3]

theorem head0_entry (x0 : Vec Ideal S1x512x1024 .f32) (x1 : Vec Ideal S1x1024 .f32) (x3 : Vec Ideal S1024x1024 .bf16)
    (k v : Vec Ideal S1x256x256 .bf16) (r : Fin 512) (n : Fin 256) :
    k0_pay6 (k0_pay4 x0 x1 x3 k) (k0_pay5 x0 x1 x3 k v) (ix2 r n)
      = headOf (fun d => k0_pay3 x0 x1 x3 (ix2 r ⟨d.val, by have := d.isLt; omega⟩)) k v n := by
  unfold k0_pay5 k0_pay4 headOf headEarly bottom
  generalize k0_pay3 x0 x1 x3 = q
  pointwise [k0_pay6]

theorem head1_entry (q : FVec Ideal S512x1024 .bf16) (k v : Vec Ideal S1x256x256 .bf16) (r : Fin 512) (n : Fin 256) :
    k0_pay7 q k v (ix2 r n) = headOf (fun d => q (ix2 r ⟨256 + d.val, by have := d.isLt; omega⟩)) k v n := by
  unfold headOf headEarly bottom
  pointwise [k0_pay7]

theorem head2_entry (q : FVec Ideal S512x1024 .bf16) (k v : Vec Ideal S1x256x256 .bf16) (r : Fin 512) (n : Fin 256) :
    k0_pay8 q k v (ix2 r n) = headOf (fun d => q (ix2 r ⟨512 + d.val, by have := d.isLt; omega⟩)) k v n := by
  unfold headOf headEarly bottom
  pointwise [k0_pay8]

/-- The last head, which the kernel computes next to the output projection. -/
def head3 (q : FVec Ideal S512x1024 .bf16) (k v : Vec Ideal S1x256x256 .bf16) : FVec Ideal S512x256 .bf16 :=
  have keys : FVec Ideal S256x256 .bf16 := shapeCast S256x256 k shapeCasts_S1x256x256_S256x256
  have vals : FVec Ideal S256x256 .bf16 := shapeCast S256x256 v shapeCasts_S1x256x256_S256x256
  have part : FVec Ideal S512x256 .bf16 := extractStridedSlice S512x256 ![0, 768] q slices_S512x1024_o0_768_S512x256
  have s : FVec Ideal S512x256 .f32 := matmul dot_S512x256_S256x256_S512x256_1_1_0_0_n_n none part keys (constant (F := Ideal) S512x256 .f32 0x00000000#32)
  have top : FVec Ideal S512 .f32 := multiReduction .maximumf [1] S512 s 0xFF800000#32 reduces_S512x256_S512 (.inl rfl) rfl
  have p : FVec Ideal S512x256 .f32 :=
    exp (subf s (broadcastTo S512x256 (shapeCast S512x1 top shapeCasts_S512_S512x1) broadcasts_S512x1_S512x256))
  have l : FVec Ideal S512 .f32 := multiReduction .add [1] S512 p 0x00000000#32 reduces_S512x256_S512 (.inl rfl) rfl
  truncf .bf16 (divf (matmul dot_S512x256_S256x256_S512x256_1_0_0_1_n_n none (truncf .bf16 p bitsLt_bf16_f32) vals
      (constant (F := Ideal) S512x256 .f32 0x00000000#32))
    (broadcastTo S512x256 (shapeCast S512x1 l shapeCasts_S512_S512x1) broadcasts_S512x1_S512x256)) bitsLt_bf16_f32

theorem head3_entry (q : FVec Ideal S512x1024 .bf16) (k v : Vec Ideal S1x256x256 .bf16) (r : Fin 512) (n : Fin 256) :
    head3 q k v (ix2 r n) = headOf (fun d => q (ix2 r ⟨768 + d.val, by have := d.isLt; omega⟩)) k v n := by
  unfold headOf headEarly bottom
  pointwise [head3]

theorem concat_entry (A B C D : FVec Ideal S512x256 .bf16) (r : Fin 512) (x : Fin 1024) (n : Fin 256) (a : ℕ)
    (hx : x.val = a * 256 + n.val) :
    concatenate S512x1024 1 [⟨S512x256, A⟩, ⟨S512x256, B⟩, ⟨S512x256, C⟩, ⟨S512x256, D⟩]
        concatenates_S512x256_S512x256_S512x256_S512x256_S512x1024_d1 (ix2 r x)
      = if a = 0 then A (ix2 r n) else if a = 1 then B (ix2 r n) else if a = 2 then C (ix2 r n) else D (ix2 r n) := by
  have hn := n.isLt
  have hl := x.isLt
  have ha : a < 4 := by omega
  pointwise
  interval_cases a
  · rw [dif_pos (by omega)]
    exact congrArg (fun z => A (ix2 r z)) (Fin.ext (show x.val = n.val by omega))
  · rw [dif_neg (by omega), dif_pos (by omega)]
    exact congrArg (fun z => B (ix2 r z)) (Fin.ext (show x.val - 256 = n.val by omega))
  · rw [dif_neg (by omega), dif_neg (by omega), dif_pos (by omega)]
    exact congrArg (fun z => C (ix2 r z)) (Fin.ext (show x.val - 256 - 256 = n.val by omega))
  · rw [dif_neg (by omega), dif_neg (by omega), dif_neg (by omega)]
    exact congrArg (fun z => D (ix2 r z)) (Fin.ext (show x.val - 256 - 256 - 256 = n.val by omega))

/-- A head's entry in the columns of the whole, when its queries, keys and values are those columns. -/
theorem headOf_eq (q : Fin 1024 → EReal) (keys vals : Fin 256 → Fin 1024 → EReal) (x : Fin 1024) (n : Fin 256)
    (k v : Vec Ideal S1x256x256 .bf16) (q' : Fin 256 → EReal) (hq : ∀ d, q' d = q (col x d) * scale)
    (hk : ∀ i d, k (ix3 0 i d) = keys i (col x d)) (hv : ∀ i, v (ix3 0 i n) = vals i x) :
    headOf q' k v n = headEarly (fun i => scoreEarly q (keys i) x) (fun i => vals i x) := by
  unfold headOf scoreEarly
  simp only [hq, hk, hv]

set_option maxHeartbeats 4000000 in
/-- What a point computes of its blocks, entry by entry. -/
theorem point_entry (x0 : Vec Ideal S1x512x1024 .f32) (x1 : Vec Ideal S1x1024 .f32) (x2 : Vec Ideal S1x256x2048 .bf16)
    (x3 x4 : Vec Ideal S1024x1024 .bf16) (r : Fin 512) (n : Fin 1024) :
    out0_5 x0 x1 x2 x3 x4 (ix3 0 r n)
      = attendEarly (fun j => x0 (ix3 0 r j)) (fun j => x1 (ix2 0 j)) (fun i j => x2 (ix3 0 i (keyCol j)))
          (fun i j => x2 (ix3 0 i (valCol j))) (fun j k => x3 (ix2 j k)) (fun j k => x4 (ix2 j k)) n := by
  unfold_out out0_5
  frame_out
  unfold k0_pay1
  dsimp only
  generalize hO : concatenate S512x1024 1 _ _ = O
  have entry : ∀ x : Fin 1024, O (ix2 r x) = headEarly (fun i => scoreEarly
      (query (fun j => x0 (ix3 0 r j)) (fun j => x1 (ix2 0 j)) (fun j k => x3 (ix2 j k))) (fun j => x2 (ix3 0 i (keyCol j))) x)
      (fun i => x2 (ix3 0 i (valCol x))) := by
    intro x
    have hl := x.isLt
    obtain ⟨a, n, hx⟩ : ∃ (a : ℕ) (n : Fin 256), x.val = a * 256 + n.val :=
      ⟨x.val / 256, ⟨x.val % 256, Nat.mod_lt _ (by decide)⟩, by simp only; omega⟩
    have hn := n.isLt
    have ha : a < 4 := by omega
    rw [← hO]
    refine (concat_entry _ _ _ _ r x n a hx).trans ?_
    interval_cases a
    · refine (head0_entry x0 x1 x3 _ _ r n).trans ?_
      refine headOf_eq (query (fun j => x0 (ix3 0 r j)) (fun j => x1 (ix2 0 j)) (fun j k => x3 (ix2 j k)))
        (fun i j => x2 (ix3 0 i (keyCol j))) (fun i j => x2 (ix3 0 i (valCol j))) x n _ _ _
        (fun d => ?_) (fun i d => ?_) (fun i => ?_)
      · rw [query_entry]
        exact congrArg (fun z => query _ _ _ z * scale) (Fin.ext (by simp only [col]; omega))
      · pointwise
        exact congrArg (fun z => x2 (ix3 0 i z)) (Fin.ext (by simp only [col, keyCol]; omega))
      · pointwise
        exact congrArg (fun z => x2 (ix3 0 i z)) (Fin.ext (by simp only [valCol]; omega))
    · refine (head1_entry _ _ _ r n).trans ?_
      refine headOf_eq (query (fun j => x0 (ix3 0 r j)) (fun j => x1 (ix2 0 j)) (fun j k => x3 (ix2 j k)))
        (fun i j => x2 (ix3 0 i (keyCol j))) (fun i j => x2 (ix3 0 i (valCol j))) x n _ _ _
        (fun d => ?_) (fun i d => ?_) (fun i => ?_)
      · rw [query_entry]
        exact congrArg (fun z => query _ _ _ z * scale) (Fin.ext (by simp only [col]; omega))
      · pointwise
        exact congrArg (fun z => x2 (ix3 0 i z)) (Fin.ext (by simp only [col, keyCol]; omega))
      · pointwise
        exact congrArg (fun z => x2 (ix3 0 i z)) (Fin.ext (by simp only [valCol]; omega))
    · refine (head2_entry _ _ _ r n).trans ?_
      refine headOf_eq (query (fun j => x0 (ix3 0 r j)) (fun j => x1 (ix2 0 j)) (fun j k => x3 (ix2 j k)))
        (fun i j => x2 (ix3 0 i (keyCol j))) (fun i j => x2 (ix3 0 i (valCol j))) x n _ _ _
        (fun d => ?_) (fun i d => ?_) (fun i => ?_)
      · rw [query_entry]
        exact congrArg (fun z => query _ _ _ z * scale) (Fin.ext (by simp only [col]; omega))
      · pointwise
        exact congrArg (fun z => x2 (ix3 0 i z)) (Fin.ext (by simp only [col, keyCol]; omega))
      · pointwise
        exact congrArg (fun z => x2 (ix3 0 i z)) (Fin.ext (by simp only [valCol]; omega))
    · refine (head3_entry _ _ _ r n).trans ?_
      refine headOf_eq (query (fun j => x0 (ix3 0 r j)) (fun j => x1 (ix2 0 j)) (fun j k => x3 (ix2 j k)))
        (fun i j => x2 (ix3 0 i (keyCol j))) (fun i j => x2 (ix3 0 i (valCol j))) x n _ _ _
        (fun d => ?_) (fun i d => ?_) (fun i => ?_)
      · rw [query_entry]
        exact congrArg (fun z => query _ _ _ z * scale) (Fin.ext (by simp only [col]; omega))
      · pointwise
        exact congrArg (fun z => x2 (ix3 0 i z)) (Fin.ext (by simp only [col, keyCol]; omega))
      · pointwise
        exact congrArg (fun z => x2 (ix3 0 i z)) (Fin.ext (by simp only [valCol]; omega))
  unfold attendEarly
  pointwise [k0_pay2]
  simp only [entry]

variable (m : (ℓ : Loc nD τ sig) → Buf (Elt Ideal) ℓ) (ρ : Dev nD → PrngReg)

/-- Where each window's block stands at a point. -/
theorem index_facts : ∀ t : Fin grid0.N,
    win0_0.index t = ![t.val / 8, t.val % 8, 0] ∧ win0_1.index t = ![0, 0] ∧ win0_2.index t = ![t.val / 8, 0, 0]
    ∧ win0_3.index t = ![0, 0] ∧ win0_4.index t = ![0, 0] ∧ win0_5.index t = ![t.val / 8, t.val % 8, 0] := by
  decide +kernel

/-- The kernel's result array as a function of the arguments. -/
def whole (h : Vec Ideal S8x4096x1024 .f32) (g : Vec Ideal S1024 .f32) (kv : Vec Ideal S8x256x2048 .bf16)
    (wq wo : Vec Ideal S1024x1024 .f32) : Vec Ideal S8x4096x1024 .f32 := fun i =>
  attendEarly (fun j => h (ix3 (i 0) (i 1) j)) (fun j => g (ix1 j)) (fun a j => kv (ix3 (i 0) a (keyCol j)))
    (fun a j => kv (ix3 (i 0) a (valCol j))) (fun j k => wq (ix2 j k)) (fun j k => wo (ix2 j k)) (i 2)

theorem read0 (c : Dev nD) (t : Fin cfg0.N) (r : Fin 512) (e : Fin 1024) (b : Fin 8) (s : Fin 4096)
    (hb : b.val = t.val / 8) (hs : s.val = t.val % 8 * 512 + r.val) :
    iblk m c 0 t (ix3 0 r e) = m ((c : Thread nD τ).loc main_arg0) (ix3 b s e) := by
  blk_ext [iblk, V, index_facts t]

theorem read1 (c : Dev nD) (t : Fin cfg0.N) (e : Fin 1024) :
    iblk m c 1 t (ix2 0 e) = m ((c : Thread nD τ).loc main_arg1) (ix1 e) := by
  blk_point [iblk, V, index_facts t]

theorem read2 (c : Dev nD) (t : Fin cfg0.N) (a : Fin 256) (e : Fin 2048) (b : Fin 8) (hb : b.val = t.val / 8) :
    iblk m c 2 t (ix3 0 a e) = m ((c : Thread nD τ).loc main_arg2) (ix3 b a e) := by
  blk_ext [iblk, V, index_facts t]

theorem read3 (c : Dev nD) (t : Fin cfg0.N) (j k : Fin 1024) :
    iblk m c 3 t (ix2 j k) = m ((c : Thread nD τ).loc main_arg3) (ix2 j k) := by
  blk_ext [iblk, V, index_facts t]

theorem read4 (c : Dev nD) (t : Fin cfg0.N) (j k : Fin 1024) :
    iblk m c 4 t (ix2 j k) = m ((c : Thread nD τ).loc main_arg4) (ix2 j k) := by
  blk_ext [iblk, V, index_facts t]

/-- The kernel's result array after its run. -/
theorem final (c : Dev nD) : (dats m 0 c).arrAt 5 cfg0.N
    = whole (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  idx_vars y
  obtain rfl : y0 = 0 := Subsingleton.elim _ _
  have ht : t.val < 64 := t.isLt
  have h1 := y1.isLt
  rw [point_entry]
  have place : ((View.whole main_v3).slice (win0_5.rect t)).emb (ix3 0 y1 y2)
      = ix3 (⟨t.val / 8, by omega⟩ : Fin 8) (⟨t.val % 8 * 512 + y1.val, by omega⟩ : Fin 4096) y2 := by
    blk_ext [iblk, V, index_facts t]
  rw [place]
  simp only [read1, read3, read4, read0 m c t y1 _ ⟨t.val / 8, by omega⟩ ⟨t.val % 8 * 512 + y1.val, by omega⟩ rfl rfl,
    read2 m c t _ _ ⟨t.val / 8, by omega⟩ rfl]
  rfl

end Kernel

end Cert.Proof.XattnValue

end
-- ==== Proof.XattnMath.lean ====
/- The arithmetic behind the cross-attention claim, hand-written: over the extended reals, the attention whose weighted sum
   is divided at the end is the attention whose weights are divided first, and a query scaled before its products gives the
   product scaled after, as soon as gain, keys and query matrix are finite. The token's own row need not be. -/
module

public import proofs.«01_k».proof.Proof.XattnValue

@[expose] public section

noncomputable section

namespace Cert.Proof.XattnValue

open Idealize.ShloMosaic

/-- A finite extended real. -/
def Real' (x : EReal) : Prop := ∃ r : ℝ, x = (r : EReal)

theorem Real'.mul {x y : EReal} (hx : Real' x) (hy : Real' y) : Real' (x * y) := by
  obtain ⟨a, rfl⟩ := hx
  obtain ⟨b, rfl⟩ := hy
  exact ⟨a * b, (EReal.coe_mul a b).symm⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem Real'.sum {ι : Type} (s : Finset ι) {f : ι → EReal} (h : ∀ i, Real' (f i)) : Real' (∑ i ∈ s, f i) := by
  choose g hg using h
  exact ⟨∑ i ∈ s, g i, by simp only [hg]; exact coe_sum s g⟩

theorem width_bits : Ideal.ofBits .f32 0x44800000#32 = ((1024 : ℝ) : EReal) := by
  simp [Ideal.ofBits, Ideal.ieee, -EReal.coe_mul]; norm_num

theorem scale_bits : scale = (((1 : ℝ) / 16 : ℝ) : EReal) := by
  simp [scale, Ideal.ofBits, Ideal.ieee, -EReal.coe_mul]; norm_num

theorem eps_bits : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

theorem bottom_bits : bottom = ⊥ := by
  simp [bottom, Ideal.ofBits, Ideal.ieee]

theorem top_bits : Ideal.ofBits .f32 0x7F800000#32 = ⊤ := by
  simp [Ideal.ofBits, Ideal.ieee]

theorem square_nonneg (x : EReal) : 0 ≤ x * x := by
  induction x with
  | bot => simp
  | top => simp
  | coe r => rw [← EReal.coe_mul]; exact_mod_cast mul_self_nonneg r

/-- A row divided by the root of its mean square is finite: an infinite entry makes the root infinite and the row zero. -/
theorem normed_real (h : Fin 1024 → EReal) (j : Fin 1024) : Real' (h j * rootInv h) := by
  obtain ⟨e, he, hb⟩ := eps_bits
  by_cases hr : ∀ i, Real' (h i)
  · choose a ha using hr
    refine Real'.mul ⟨a j, ha j⟩ ?_
    have sum : ∑ i, h i * h i = ((∑ i, a i * a i : ℝ) : EReal) := by
      rw [← coe_sum]
      exact Finset.sum_congr rfl fun i _ => by rw [ha i, EReal.coe_mul]
    have pos : 0 ≤ ∑ i, a i * a i := Finset.sum_nonneg fun i _ => mul_self_nonneg _
    have q : Ideal.div (∑ i, h i * h i) (Ideal.ofBits .f32 0x44800000#32) + Ideal.ofBits .f32 0x358637BD#32
        = (((∑ i, a i * a i) * 1024⁻¹ + e : ℝ) : EReal) := by
      rw [sum, width_bits, hb, Ideal.div, if_neg (by norm_num), ← EReal.coe_inv, ← EReal.coe_mul, ← EReal.coe_add]
    have pq : 0 < (∑ i, a i * a i) * 1024⁻¹ + e := by positivity
    refine ⟨(Real.sqrt ((∑ i, a i * a i) * 1024⁻¹ + e))⁻¹, ?_⟩
    unfold rootInv
    rw [q]
    show (if _ < (0 : ℝ) then (⊥ : EReal) else if _ = (0 : ℝ) then ⊤ else _) = _
    rw [if_neg (not_lt.mpr pq.le), if_neg pq.ne']
  · push Not at hr
    obtain ⟨i, hi⟩ := hr
    have sq : h i * h i = ⊤ := by
      induction hx : h i with
      | bot => simp
      | top => simp
      | coe r => exact absurd ⟨r, hx⟩ hi
    have sum : ∑ i, h i * h i = ⊤ := by
      refine top_le_iff.mp (sq ▸ ?_)
      exact Finset.single_le_sum (f := fun i => h i * h i) (fun i _ => square_nonneg (h i)) (Finset.mem_univ i)
    refine ⟨0, ?_⟩
    have : rootInv h = 0 := by
      unfold rootInv
      rw [sum, width_bits, hb, Ideal.div, if_neg (by norm_num), ← EReal.coe_inv, EReal.top_mul_coe_of_pos (by norm_num),
        EReal.top_add_coe]
      rfl
    rw [this, mul_zero, EReal.coe_zero]

theorem query_real (h g : Fin 1024 → EReal) (wq : Fin 1024 → Fin 1024 → EReal) (hg : ∀ j, Real' (g j))
    (hw : ∀ j n, Real' (wq j n)) (n : Fin 1024) : Real' (query h g wq n) :=
  Real'.sum _ fun j => ((normed_real h j).mul (hg j)).mul (hw j n)

theorem score_real (q key : Fin 1024 → EReal) (hq : ∀ n, Real' (q n)) (hk : ∀ n, Real' (key n)) (x : Fin 1024) :
    Real' (scoreLate q key x) :=
  (Real'.sum _ fun d => (hq _).mul (hk _)).mul ⟨_, scale_bits⟩

theorem score_eq (q key : Fin 1024 → EReal) (hq : ∀ n, Real' (q n)) (hk : ∀ n, Real' (key n)) (x : Fin 1024) :
    scoreEarly q key x = scoreLate q key x := by
  choose a ha using hq
  choose b hb using hk
  unfold scoreEarly scoreLate
  simp only [ha, hb, scale_bits, ← EReal.coe_mul, coe_sum]
  congr 1
  rw [Finset.sum_mul]
  exact Finset.sum_congr rfl fun d _ => by ring

/-- A finite factor that is not negative distributes over a sum whatever its terms are. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

theorem fold_max_real {ι : Type} [DecidableEq ι] (s : Finset ι) (hs : s.Nonempty) (f : ι → ℝ) :
    Real' (s.fold max ⊥ fun i => ((f i : ℝ) : EReal)) := by
  induction hs using Finset.Nonempty.cons_induction with
  | singleton a => exact ⟨f a, by simp⟩
  | cons a s ha hs ih =>
    obtain ⟨r, hr⟩ := ih
    rw [Finset.fold_cons, hr]
    exact ⟨max (f a) r, (EReal.coe_strictMono.monotone.map_max).symm⟩

/-- With finite scores it does not matter when the weights are divided by their sum. -/
theorem head_eq (s v : Fin 256 → EReal) (hs : ∀ i, Real' (s i)) : headEarly s v = headLate s v := by
  choose a ha using hs
  obtain rfl : s = fun i => ((a i : ℝ) : EReal) := funext ha
  unfold headEarly headLate
  rw [bottom_bits, max_eq_right bot_le]
  obtain ⟨t, ht⟩ := fold_max_real Finset.univ ⟨(0 : Fin 256), Finset.mem_univ _⟩ a
  rw [ht]
  have e : ∀ i, Ideal.exp (((a i : ℝ) : EReal) - (t : EReal)) = ((Real.exp (a i - t) : ℝ) : EReal) := fun i => by
    rw [← EReal.coe_sub]; rfl
  simp only [e, coe_sum]
  have pos : 0 < ∑ i : Fin 256, Real.exp (a i - t) :=
    Finset.sum_pos (fun i _ => Real.exp_pos _) ⟨(0 : Fin 256), Finset.mem_univ _⟩
  have ne : ((∑ i : Fin 256, Real.exp (a i - t) : ℝ) : EReal) ≠ 0 := by exact_mod_cast pos.ne'
  simp only [Ideal.div, if_neg ne, ← EReal.coe_inv]
  rw [sum_mul_coe _ _ _ (inv_nonneg.mpr pos.le)]
  exact Finset.sum_congr rfl fun i _ => by rw [mul_comm (v i), mul_right_comm]

/-- The two attentions agree when gain, keys and query matrix are finite. -/
theorem attend_eq (h g : Fin 1024 → EReal) (key val : Fin 256 → Fin 1024 → EReal) (wq wo : Fin 1024 → Fin 1024 → EReal)
    (hg : ∀ j, Real' (g j)) (hk : ∀ i j, Real' (key i j)) (hw : ∀ j n, Real' (wq j n)) (n : Fin 1024) :
    attendEarly h g key val wq wo n = attendLate h g key val wq wo n := by
  unfold attendEarly attendLate
  refine congrArg (h n + ·) (Finset.sum_congr rfl fun x _ => congrArg (· * wo x n) ?_)
  have hq := query_real h g wq hg hw
  simp only [fun i => score_eq _ (key i) hq (hk i) x]
  exact head_eq _ _ fun i => score_real _ _ hq (hk i) x

end Cert.Proof.XattnValue

end
-- ==== Proof.XattnAlgebraic.lean ====
/- The cross-attention claim, hand-written: what the precondition says of the arguments, the reference's result array entry
   by entry, and the two programs' equal results. -/
module

public import proofs.«01_k».proof.Proof.XattnMath
public import proofs.«01_k».proof.Proof.Gen.XattnRefIdeal.Run
public import Idealize.ShloMosaic.Lib.ReduceAll
public import Idealize.ShloMosaic.Lib.Tactic.CleanTypes

@[expose] public section

set_option maxRecDepth 16384

noncomputable section

namespace Cert.Proof.XattnValue

open Idealize.ShloMosaic Idealize.ShloMosaic.TcCoe Idealize.SL.Sem

/-- The shape relations that the precondition takes. -/
theorem preFacts : Cert.Pre_keys_finite.Facts where
  slices_S8x256x2048_S8x256x1024_0_0_0 := by decide
  bitsLt_bf16_f32 := by decide
  bcast_S_S1024 := by decide
  reducesTo_S1024_S_d0 := by decide
  h_S_ := by decide
  bcast_S_S8x256x1024 := by decide
  reducesTo_S8x256x1024_S_d0_1_2 := by decide
  bcast_S_S1024x1024 := by decide
  reducesTo_S1024x1024_S_d0_1 := by decide

/-- A magnitude below infinity is a finite one. -/
theorem real_of_below {x : EReal}
    (h : Ideal.cmp .olt (max x (-x)) (Ideal.ofBits .f32 0x7F800000#32) = 1#1) : Real' x := by
  rw [top_bits] at h
  induction x with
  | bot => simp [Ideal.cmp] at h
  | top => simp [Ideal.cmp] at h
  | coe r => exact ⟨r, rfl⟩

instance : Subsingleton Cert.Pre_keys_finite.S_.Idx := ⟨fun a b => funext fun d => d.elim0⟩

section Pre
attribute [local instance] preFacts
open Cert.Pre_keys_finite

/-- What the precondition says: gain, keys and query matrix are finite. -/
theorem finite_of_pre (x0 : FVec Ideal S8x4096x1024 .f32) (x1 : FVec Ideal S1024 .f32) (x2 : FVec Ideal S8x256x2048 .bf16)
    (x3 x4 : FVec Ideal S1024x1024 .f32) (h : Cert.Pre_keys_finite.fn (F := Ideal) x0 x1 x2 x3 x4 = fun _ => 1#1) :
    (∀ j, Real' (x1 (ix1 j))) ∧ (∀ b i j, Real' (x2 (ix3 b i (keyCol j)))) ∧ ∀ j k, Real' (x3 (ix2 j k)) := by
  have e := congrFun h (Shape.Idx.first Facts.h_S_)
  dsimp only [Cert.Pre_keys_finite.fn] at e
  obtain ⟨e12, e3⟩ := IntOp.andi_eq_one.1 e
  obtain ⟨e1, e2⟩ := IntOp.andi_eq_one.1 e12
  refine ⟨fun j => real_of_below ?_, fun b i j => real_of_below ?_, fun j k => real_of_below ?_⟩
  · exact Host.reduce_andi_all _ _ _ _ _ e1 (ix1 j)
  · have := Host.reduce_andi_all _ _ _ _ _ e2 (ix3 b i j)
    have read : extractStridedSlice S8x256x1024 ![0, 0, 0] x2 Facts.slices_S8x256x2048_S8x256x1024_0_0_0 (ix3 b i j)
        = x2 (ix3 b i (keyCol j)) := by
      unfold keyCol
      pointwise
    rw [← read]
    exact this
  · exact Host.reduce_andi_all _ _ _ _ _ e3 (ix2 j k)

end Pre

section Reference
open Cert.XattnRefIdeal Cert.XattnRefIdeal.Value

/-- The reference's result array as a function of the arguments. -/
def plain (h : Vec Ideal S8x4096x1024 .f32) (g : Vec Ideal S1024 .f32) (kv : Vec Ideal S8x256x2048 .bf16)
    (wq wo : Vec Ideal S1024x1024 .f32) : Vec Ideal S8x4096x1024 .f32 := fun i =>
  attendLate (fun j => h (ix3 (i 0) (i 1) j)) (fun j => g (ix1 j)) (fun a j => kv (ix3 (i 0) a (keyCol j)))
    (fun a j => kv (ix3 (i 0) a (valCol j))) (fun j k => wq (ix2 j k)) (fun j k => wo (ix2 j k)) (i 2)

/-- The largest of a row of scores. -/
theorem rowMax (S : FVec Ideal S8x4x4096x256 .f32) (b : Fin 8) (a : Fin 4) (r : Fin 4096) :
    Host.reduce (α := Ideal .f32) FloatOps.maximumf S (constant S_ .f32 0xFF800000#32) Gen.reducesTo_S8x4x4096x256_S8x4x4096_d3
      Gen.h_S_ (ix3 b a r) = Finset.univ.fold max bottom fun i => S (ix4 b a r i) := by
  rw [Host.reduce_eq_fold, Shape.ReducesTo.fold_fiber_r4_a3]
  rfl

/-- A score's power, the row's largest subtracted. -/
theorem spread (S : FVec Ideal S8x4x4096x256 .f32) (M : FVec Ideal S8x4x4096 .f32) (b : Fin 8) (a : Fin 4) (r : Fin 4096)
    (i : Fin 256) :
    Host.exp (subf S
      (broadcastInDim S8x4x4096x256 ![0, 1, 2, 3] Gen.bcast_S8x4x4096x1_S8x4x4096x256_0_1_2_3
        (broadcastInDim S8x4x4096x1 ![0, 1, 2] Gen.bcast_S8x4x4096_S8x4x4096x1_0_1_2
          (maximumf (broadcastInDim S8x4x4096 ![] Gen.bcast_S_S8x4x4096 (constant S_ .f32 0xFF800000#32)) M)))) (ix4 b a r i)
      = Ideal.exp (S (ix4 b a r i) - max bottom (M (ix3 b a r))) := by
  unfold bottom
  pointwise

theorem result (m : (ℓ : Loc nD τ sig) → Buf (Elt Ideal) ℓ) (c : Dev nD) : res_main_v38 m c
    = plain (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  funext y
  unfold res_main_v38
  clean_types
  generalize m ((c.tc : Thread nD τ).loc main_arg0) = x0
  generalize m ((c.tc : Thread nD τ).loc main_arg1) = x1
  generalize m ((c.tc : Thread nD τ).loc main_arg2) = x2
  generalize m ((c.tc : Thread nD τ).loc main_arg3) = x3
  generalize m ((c.tc : Thread nD τ).loc main_arg4) = x4
  change Vec Ideal S8x256x2048 .bf16 at x2
  idx_vars y
  generalize hS : mulf (F := Ideal) (φ := .f32) (Host.dotGeneral (F := Ideal) (φ₁ := .f32) (φ₂ := .f32) dot_S8x4096x4x256_S8x256x4x256_S8x4x4096x256_3_3_1_1_02_02 none _ _) _ = S
  have entry : ∀ (a : Fin 4) (i : Fin 256), S (ix4 y0 a y1 i)
      = (∑ d : Fin 256, query (fun j => x0 (ix3 y0 y1 j)) (fun j => x1 (ix1 j)) (fun j k => x3 (ix2 j k))
          ⟨a.val * 256 + d.val, by have := a.isLt; have := d.isLt; omega⟩
        * x2 (ix3 y0 i ⟨a.val * 256 + d.val, by have := a.isLt; have := d.isLt; omega⟩)) * scale := by
    intro a i
    rw [← hS]
    generalize hQ : Host.dotGeneral (F := Ideal) (φ₁ := .f32) (φ₂ := .f32) dot_S8x4096x1024_S1024x1024_S8x4096x1024_2_0_01_1_n_n none _ x3 = Q
    have inner : ∀ n : Fin 1024, Q (ix3 y0 y1 n)
        = query (fun j => x0 (ix3 y0 y1 j)) (fun j => x1 (ix1 j)) (fun j k => x3 (ix2 j k)) n := by
      intro n
      rw [← hQ]
      unfold query rootInv
      pointwise
    unfold scale
    pointwise
    simp only [inner]
  clear hS
  generalize hW : Host.divf (F := Ideal) (φ := .f32) (s := S8x4x4096x256) _ _ = W
  have weight : ∀ (a : Fin 4) (i : Fin 256), W (ix4 y0 a y1 i)
      = Ideal.div (Ideal.exp (S (ix4 y0 a y1 i) - max bottom (Finset.univ.fold max bottom fun i => S (ix4 y0 a y1 i))))
          (∑ i, Ideal.exp (S (ix4 y0 a y1 i) - max bottom (Finset.univ.fold max bottom fun i => S (ix4 y0 a y1 i)))) := by
    intro a i
    rw [← hW]
    generalize hE : Host.exp (F := Ideal) (φ := .f32) (s := S8x4x4096x256) _ = E
    have power : ∀ i : Fin 256, E (ix4 y0 a y1 i)
        = Ideal.exp (S (ix4 y0 a y1 i) - max bottom (Finset.univ.fold max bottom fun i => S (ix4 y0 a y1 i))) := by
      intro i
      rw [← hE]
      generalize hM : Host.reduce (α := Ideal .f32) FloatOps.maximumf S _ _ _ = M
      have top : M (ix3 y0 a y1) = Finset.univ.fold max bottom fun i => S (ix4 y0 a y1 i) := by
        rw [← hM]
        exact rowMax S y0 a y1
      clear hM
      rw [← top]
      exact spread S M y0 a y1 i
    clear hE
    pointwise
    simp only [power]
  clear hW
  generalize hO : shapeCast S8x4096x1024 (transpose (s := S8x4x256x4096) (α := Ideal .f32) S8x4096x4x256 [0, 3, 1, 2] _ _) _ = O
  have out : ∀ x : Fin 1024, O (ix3 y0 y1 x)
      = ∑ i : Fin 256, (x2 (ix3 y0 i (valCol x)) : EReal) * W (ix4 y0 ⟨x.val / 256, by have := x.isLt; omega⟩ y1 i) := by
    intro x
    rw [← hO]
    unfold valCol
    pointwise
  clear hO
  unfold plain attendLate headLate scoreLate keyCol col
  pointwise
  simp only [out, weight, entry]

end Reference

/-- From finite gain, keys and query matrix the kernel and the reference end with the same result. -/
theorem algebraic : Cert.algebraic_XattnIdeal_XattnRefIdeal_pre_keys_finite (hXattnIdeal := Cert.XattnIdeal.Gen.facts)
    (hXattnRefIdeal := Cert.XattnRefIdeal.Gen.facts) (hPre_keys_finite := preFacts) := by
  intro m ρ m' ρ' hpre hagree
  refine ⟨fun c => plain (m ((c.tc : Thread Cert.XattnIdeal.nD Cert.XattnIdeal.τ).loc Cert.XattnIdeal.main_arg0))
    (m ((c.tc : Thread Cert.XattnIdeal.nD Cert.XattnIdeal.τ).loc Cert.XattnIdeal.main_arg1))
    (m ((c.tc : Thread Cert.XattnIdeal.nD Cert.XattnIdeal.τ).loc Cert.XattnIdeal.main_arg2))
    (m ((c.tc : Thread Cert.XattnIdeal.nD Cert.XattnIdeal.τ).loc Cert.XattnIdeal.main_arg3))
    (m ((c.tc : Thread Cert.XattnIdeal.nD Cert.XattnIdeal.τ).loc Cert.XattnIdeal.main_arg4)), ?_, ?_⟩
  · refine (θ_run Cert.XattnIdeal.defs _ _).mono (fun _ h c => ⟨((h c).1.trans (final m c)).trans ?_, (h c).2⟩)
      (Cert.XattnIdeal.Value.run_blocks m ρ)
    obtain ⟨hg, hk, hw⟩ := finite_of_pre _ _ _ _ _ (hpre c)
    funext i
    exact attend_eq _ _ _ _ _ _ hg (fun a j => hk (i 0) a j) hw _
  · refine (θ_run Cert.XattnRefIdeal.defs _ _).mono (fun _ h c => ⟨(h c).1.trans ?_, (h c).2⟩)
      (Cert.XattnRefIdeal.Value.run m' ρ')
    obtain ⟨e0, e1, e2, e3, e4⟩ := hagree c
    beta_reduce
    rw [← e0, ← e1, ← e2, ← e3, ← e4]
    exact result m' c

end Cert.Proof.XattnValue

end
-- ==== Proof.ExpertsIdealRuns.lean ====
/- The grouped experts: what the launch hands the kernel body at a point of the grid (the two tables, the block of every
   window), and when the body computes and when it stores zeros. -/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Kit

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 0 (fun _ => rfl) (by decide)) (P := 1) (m := 0) (by decide) rfl t).mpr (Nat.mod_one _) : ∀ t : Fin grid0.N, Pipeline.Window.flushOf grid0 true cc0_transform_5 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

abbrev bodyAt0 (a : (pcfg0 (F := F)).Adm) (t : Fin (cfg0 a).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-- What core `c`'s buffers hold when the call is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the call: its host operations, then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The two tables (the group of every tile, the number of used tiles) when the call is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl
/-- Every weight block the tables point at lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S68 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- The contents of a table's buffer, and the half share of it that the body reads under. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of window `w` at point `t`, read off its array at entry. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

def dflt0_0 (hO : Ok m) : ((cfgM m hO).win 0).block.Idx → Elt F ((cfgM m hO).win 0).elt := fun _ => Classical.choice inferInstance
/-- What the window of the rows holds at point `t`: its block, which no edge cuts. -/
def X0_0 (hO : Ok m) (c : Dev nD) (t : Fin (cfgM m hO).N) : ((cfgM m hO).win 0).block.Idx → Elt F ((cfgM m hO).win 0).elt :=
  ((cfgM m hO).win 0).fill ((cfgM m hO).grid.coords t) (dflt0_0 m hO) (iblk m hO c 0 t)
/-- No block of the rows the grid reaches is cut by the array's edge. -/
theorem extent0_0 : ∀ t : Fin grid0.N, ∀ a, (clip0_0 (grid0.coords t) a).extent (S512x1024.size a) = S512x1024.size a := by decide +kernel
theorem xsize0_0 (hO : Ok m) (t : Fin (cfgM m hO).N) (a) : ((cfgM m hO).win 0).xsize ((cfgM m hO).grid.coords t) a = ((cfgM m hO).win 0).size a := extent0_0 t a
theorem moved0_0 (hO : Ok m) (t : Fin (cfgM m hO).N) (j : ((cfgM m hO).win 0).block.Idx) : ((cfgM m hO).win 0).moved ((cfgM m hO).grid.coords t) j = true :=
  (((cfgM m hO).win 0).moved_iff _ j).mpr fun a => by rw [xsize0_0 m hO t a]; exact (j a).isLt
theorem fill0_0 (hO : Ok m) (t : Fin (cfgM m hO).N) (d d' : ((cfgM m hO).win 0).block.Idx → Elt F ((cfgM m hO).win 0).elt) (g) :
    ((cfgM m hO).win 0).fill ((cfgM m hO).grid.coords t) d g = ((cfgM m hO).win 0).fill ((cfgM m hO).grid.coords t) d' g := by
  funext j; unfold Pipeline.Window.fill; rw [dif_pos (moved0_0 m hO t j), dif_pos (moved0_0 m hO t j)]
/-- At every point the window of the rows holds its block. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = X0_0 m hO c t) (t : Fin (cfgM m hO).N) (d) : dat.before 0 t d = X0_0 m hO c t :=
  (dat.before_in_eq_fetched 0 rfl (fun _ => rfl)
      (fun t t' h => funext fun a => congrArg (fun n => Pipeline.Clip.of n (((cfgM m hO).win 0).size a) (S34816x1152.size a)) (congrFun h a))
      (fun t => by rw [hafter]; unfold X0_0; rw [Pipeline.Window.cut_fill]; unfold Dat.blockOf iblk; rw [hA]; try rfl) t d).trans
    (by unfold Dat.fetched X0_0; rw [fill0_0 m hO t d (dflt0_0 m hO)]; unfold Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- From a run to the pipeline's postcondition, that the argument arrays end unchanged. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 1).trans (((dats 0 c).arrAt_in 1 rfl _).trans ((hA c 1).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) h

/-- The count the body reads from the second table. -/
abbrev usedWord {c : Dev nD} (x : TbBuf0 (F := F) c tbM0_1) : BitVec 32 :=
  tbM0_1.view.readAt (Elt F) (Rect.unit (s := S1) ![0] S1.size inb_S1_S1_0).toLoadRect x (Shape.Idx.first (numel1_S1.symm ▸ Nat.one_pos))
/-- The tile is below the number of used tiles: the experts are computed. -/
abbrev cond0_0 (i : grid0.Coords) (v0 : BitVec 32) : Prop := k0_cond1 i v0 = 1#1

/-- The tile is past the used ones: zeros are stored. -/
abbrev cond0_1 (i : grid0.Coords) (v4 : BitVec 32) : Prop := k0_cond2 i v4 = 1#1

abbrev VO0_5 : View sig .tc .vmem S512x1024 .f32 := (Memref.whole cc0_stg5_0 : Memref sig .tc .vmem S512x1024 .f32).view
abbrev ms0_0 (hO : Ok m) (t : Fin (cfgM m hO).N) : Memref sig .tc .vmem S512x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x128 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x8x1024x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x8x1024x256 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x8x256x1024 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x1024 .f32 := spec0_5.stage ((cfgM m hO).slots t 5)
abbrev hs0_5 (hO : Ok m) (t : Fin (cfgM m hO).N) : (ms0_5 m hO t).IsWhole := hstage0_5 (((cfgM m hO).slots t 5).cast nbuf0_5)

/-- A tile is either computed or zeroed, never both. -/
theorem zero_iff (i : grid0.Coords) (v : BitVec 32) : cond0_1 i v ↔ ¬ cond0_0 i v := by
  unfold cond0_0 cond0_1 k0_cond1 k0_cond2
  generalize BitVec.ofNat 32 (i 0).val = a
  have h1 : ∀ b : Bool, Scalar.cmpi .ne (Scalar.extui (BitVec.ofBool b) : BitVec 32) 0#32 = 1#1 ↔ b = true := by decide
  show Scalar.cmpi .ne (Scalar.extui (BitVec.ofBool (v.sle a)) : BitVec 32) 0#32 = 1#1
    ↔ ¬ Scalar.cmpi .ne (Scalar.extui (BitVec.ofBool (a.slt v)) : BitVec 32) 0#32 = 1#1
  rw [h1, h1, BitVec.sle_eq_not_slt]
  cases a.slt v <;> decide

/-- So the output block is stored at every point. -/
theorem stored (i : grid0.Coords) (v : BitVec 32) : (!(k0_cond1 i v == 1#1) && !(k0_cond2 i v == 1#1)) = false := by
  by_cases h : k0_cond1 i v = 1#1
  · rw [h]; rfl
  · rw [show k0_cond2 i v = 1#1 from (zero_iff i v).2 h]; simp

end Cert.ExpertsIdeal.Kit

end
-- ==== Proof.ExpertsIdealRunUsed.lean ====
/- The grouped experts: the run of the kernel body at a used tile: it stores the gated sum of the experts of the group. -/
module

public import proofs.«01_k».proof.Proof.ExpertsIdealRuns

@[expose] public section

set_option maxRecDepth 16384

noncomputable section

namespace Cert.ExpertsIdeal.Kit

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run, with the stores it makes into the output block as the witness. -/
noncomputable def kernelRun0_B (c : Dev nD) (i : grid0.Coords) (arg3 : Memref sig .tc .vmem S512x1024 .f32) (harg3 : arg3.IsWhole) (arg4 : Memref sig .tc .vmem S512x128 .f32) (harg4 : arg4.IsWhole) (arg5 : Memref sig .tc .vmem S1x8x1024x256 .bf16) (harg5 : arg5.IsWhole) (arg6 : Memref sig .tc .vmem S1x8x1024x256 .bf16) (harg6 : arg6.IsWhole) (arg7 : Memref sig .tc .vmem S1x8x256x1024 .bf16) (harg7 : arg7.IsWhole) (arg8 : Memref sig .tc .vmem S512x1024 .f32) (harg8 : arg8.IsWhole)
    (x0 : Vec F S512x1024 .f32) (x1 : Vec F S512x128 .f32) (x2 : Vec F S1x8x1024x256 .bf16) (x3 : Vec F S1x8x1024x256 .bf16) (x4 : Vec F S1x8x256x1024 .bf16) (xt0 : TbBuf0 (F := F) c tbM0_0) (xt1 : TbBuf0 (F := F) c tbM0_1) (hc0 : cond0_0 i (usedWord xt1)) (hc1 : ¬cond0_1 i (usedWord xt1)) :
    { L5 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8) K } := by
  refine ⟨?_, fun E K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HT0]; · iexact HT0
    iexact HT1

end Cert.ExpertsIdeal.Kit

end
-- ==== Proof.ExpertsIdealRunRest.lean ====
/- The grouped experts: the run of the kernel body at a tile past the used ones: it stores zeros. -/
module

public import proofs.«01_k».proof.Proof.ExpertsIdealRunUsed

@[expose] public section

set_option maxRecDepth 16384

noncomputable section

namespace Cert.ExpertsIdeal.Kit

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The run, with the stores it makes into the output block as the witness. -/
noncomputable def kernelRun0_C (c : Dev nD) (i : grid0.Coords) (arg3 : Memref sig .tc .vmem S512x1024 .f32) (harg3 : arg3.IsWhole) (arg4 : Memref sig .tc .vmem S512x128 .f32) (harg4 : arg4.IsWhole) (arg5 : Memref sig .tc .vmem S1x8x1024x256 .bf16) (harg5 : arg5.IsWhole) (arg6 : Memref sig .tc .vmem S1x8x1024x256 .bf16) (harg6 : arg6.IsWhole) (arg7 : Memref sig .tc .vmem S1x8x256x1024 .bf16) (harg7 : arg7.IsWhole) (arg8 : Memref sig .tc .vmem S512x1024 .f32) (harg8 : arg8.IsWhole)
    (x0 : Vec F S512x1024 .f32) (x1 : Vec F S512x128 .f32) (x2 : Vec F S1x8x1024x256 .bf16) (x3 : Vec F S1x8x1024x256 .bf16) (x4 : Vec F S1x8x256x1024 .bf16) (xt0 : TbBuf0 (F := F) c tbM0_0) (xt1 : TbBuf0 (F := F) c tbM0_1) (hc0 : ¬cond0_0 i (usedWord xt1)) (hc1 : cond0_1 i (usedWord xt1)) :
    { L5 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7 arg8 harg8) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HT0]; · iexact HT0
    iexact HT1

end Cert.ExpertsIdeal.Kit

end
-- ==== Proof.ExpertsIdealFrame.lean ====
/- The grouped experts: what every block of the output ends with, the run of the whole program, and its frame. -/
module

public import proofs.«01_k».proof.Proof.ExpertsIdealRunRest
public import Idealize.ShloMosaic.Lib.Claim

@[expose] public section

set_option maxRecDepth 16384

noncomputable section

namespace Cert.ExpertsIdeal.Kit

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_B_5 (c : Dev nD) (i : grid0.Coords) (arg3 : Memref sig .tc .vmem S512x1024 .f32) (harg3 : arg3.IsWhole) (arg4 : Memref sig .tc .vmem S512x128 .f32) (harg4 : arg4.IsWhole) (arg5 : Memref sig .tc .vmem S1x8x1024x256 .bf16) (harg5 : arg5.IsWhole) (arg6 : Memref sig .tc .vmem S1x8x1024x256 .bf16) (harg6 : arg6.IsWhole) (arg7 : Memref sig .tc .vmem S1x8x256x1024 .bf16) (harg7 : arg7.IsWhole) (arg8 : Memref sig .tc .vmem S512x1024 .f32) (harg8 : arg8.IsWhole)
    (x0 : Vec F S512x1024 .f32) (x1 : Vec F S512x128 .f32) (x2 : Vec F S1x8x1024x256 .bf16) (x3 : Vec F S1x8x1024x256 .bf16) (x4 : Vec F S1x8x256x1024 .bf16) (xt0 : TbBuf0 (F := F) c tbM0_0) (xt1 : TbBuf0 (F := F) c tbM0_1) (hc0 : cond0_0 i (usedWord xt1)) (hc1 : ¬cond0_1 i (usedWord xt1)) (y : S512x1024.Idx) :
    ∃ pc ∈ (kernelRun0_B c i arg3 harg3 arg4 harg4 arg5 harg5 arg6 harg6 arg7 harg7 arg8 harg8 x0 x1 x2 x3 x4 xt0 xt1 hc0 hc1).1, y ∈ pc.1.set :=
  View.cover_of_tiledL (kernelRun0_B c i arg3 harg3 arg4 harg4 arg5 harg5 arg6 harg6 arg7 harg7 arg8 harg8 x0 x1 x2 x3 x4 xt0 xt1 hc0 hc1).1 S512x1024.size (by sl_kernel_rfl) y

def out0_B_5 (c : Dev nD) (i : grid0.Coords) (arg3 : Memref sig .tc .vmem S512x1024 .f32) (harg3 : arg3.IsWhole) (arg4 : Memref sig .tc .vmem S512x128 .f32) (harg4 : arg4.IsWhole) (arg5 : Memref sig .tc .vmem S1x8x1024x256 .bf16) (harg5 : arg5.IsWhole) (arg6 : Memref sig .tc .vmem S1x8x1024x256 .bf16) (harg6 : arg6.IsWhole) (arg7 : Memref sig .tc .vmem S1x8x256x1024 .bf16) (harg7 : arg7.IsWhole) (arg8 : Memref sig .tc .vmem S512x1024 .f32) (harg8 : arg8.IsWhole)
    (x0 : Vec F S512x1024 .f32) (x1 : Vec F S512x128 .f32) (x2 : Vec F S1x8x1024x256 .bf16) (x3 : Vec F S1x8x1024x256 .bf16) (x4 : Vec F S1x8x256x1024 .bf16) (xt0 : TbBuf0 (F := F) c tbM0_0) (xt1 : TbBuf0 (F := F) c tbM0_1) (hc0 : cond0_0 i (usedWord xt1)) (hc1 : ¬cond0_1 i (usedWord xt1)) : Vec F S512x1024 .f32 :=
  VO0_5.read (Elt F) (VO0_5.writes (Elt F) VO0_5.junk (kernelRun0_B c i arg3 harg3 arg4 harg4 arg5 harg5 arg6 harg6 arg7 harg7 arg8 harg8 x0 x1 x2 x3 x4 xt0 xt1 hc0 hc1).1)

theorem cover0_C_5 (c : Dev nD) (i : grid0.Coords) (arg3 : Memref sig .tc .vmem S512x1024 .f32) (harg3 : arg3.IsWhole) (arg4 : Memref sig .tc .vmem S512x128 .f32) (harg4 : arg4.IsWhole) (arg5 : Memref sig .tc .vmem S1x8x1024x256 .bf16) (harg5 : arg5.IsWhole) (arg6 : Memref sig .tc .vmem S1x8x1024x256 .bf16) (harg6 : arg6.IsWhole) (arg7 : Memref sig .tc .vmem S1x8x256x1024 .bf16) (harg7 : arg7.IsWhole) (arg8 : Memref sig .tc .vmem S512x1024 .f32) (harg8 : arg8.IsWhole)
    (x0 : Vec F S512x1024 .f32) (x1 : Vec F S512x128 .f32) (x2 : Vec F S1x8x1024x256 .bf16) (x3 : Vec F S1x8x1024x256 .bf16) (x4 : Vec F S1x8x256x1024 .bf16) (xt0 : TbBuf0 (F := F) c tbM0_0) (xt1 : TbBuf0 (F := F) c tbM0_1) (hc0 : ¬cond0_0 i (usedWord xt1)) (hc1 : cond0_1 i (usedWord xt1)) (y : S512x1024.Idx) :
    ∃ pc ∈ (kernelRun0_C c i arg3 harg3 arg4 harg4 arg5 harg5 arg6 harg6 arg7 harg7 arg8 harg8 x0 x1 x2 x3 x4 xt0 xt1 hc0 hc1).1, y ∈ pc.1.set :=
  View.cover_of_tiledL (kernelRun0_C c i arg3 harg3 arg4 harg4 arg5 harg5 arg6 harg6 arg7 harg7 arg8 harg8 x0 x1 x2 x3 x4 xt0 xt1 hc0 hc1).1 S512x1024.size (by sl_kernel_rfl) y

def out0_C_5 (c : Dev nD) (i : grid0.Coords) (arg3 : Memref sig .tc .vmem S512x1024 .f32) (harg3 : arg3.IsWhole) (arg4 : Memref sig .tc .vmem S512x128 .f32) (harg4 : arg4.IsWhole) (arg5 : Memref sig .tc .vmem S1x8x1024x256 .bf16) (harg5 : arg5.IsWhole) (arg6 : Memref sig .tc .vmem S1x8x1024x256 .bf16) (harg6 : arg6.IsWhole) (arg7 : Memref sig .tc .vmem S1x8x256x1024 .bf16) (harg7 : arg7.IsWhole) (arg8 : Memref sig .tc .vmem S512x1024 .f32) (harg8 : arg8.IsWhole)
    (x0 : Vec F S512x1024 .f32) (x1 : Vec F S512x128 .f32) (x2 : Vec F S1x8x1024x256 .bf16) (x3 : Vec F S1x8x1024x256 .bf16) (x4 : Vec F S1x8x256x1024 .bf16) (xt0 : TbBuf0 (F := F) c tbM0_0) (xt1 : TbBuf0 (F := F) c tbM0_1) (hc0 : ¬cond0_0 i (usedWord xt1)) (hc1 : cond0_1 i (usedWord xt1)) : Vec F S512x1024 .f32 :=
  VO0_5.read (Elt F) (VO0_5.writes (Elt F) VO0_5.junk (kernelRun0_C c i arg3 harg3 arg4 harg4 arg5 harg5 arg6 harg6 arg7 harg7 arg8 harg8 x0 x1 x2 x3 x4 xt0 xt1 hc0 hc1).1)

/-- What the output block holds after the body at point `t`. -/
def outsAt0 (hO : Ok m) (c : Dev nD) (t : Fin (cfgM m hO).N) : Vec F S512x1024 .f32 :=
  if h0 : cond0_0 (grid0.coords t) (usedWord (c := c) (tbl m 1)) then
    out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (X0_0 m hO c t) (iblk m hO c 1 t) (iblk m hO c 2 t) (iblk m hO c 3 t) (iblk m hO c 4 t) (tbl m 0) (tbl m 1) h0 (fun h => (zero_iff _ _).1 h h0)
  else
    out0_C_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (X0_0 m hO c t) (iblk m hO c 1 t) (iblk m hO c 2 t) (iblk m hO c 3 t) (iblk m hO c 4 t) (tbl m 0) (tbl m 1) h0 ((zero_iff _ _).2 h0)

theorem outsAt0_B (hO : Ok m) (c : Dev nD) (t : Fin (cfgM m hO).N) (h0 : cond0_0 (grid0.coords t) (usedWord (c := c) (tbl m 1))) (h1 : ¬cond0_1 (grid0.coords t) (usedWord (c := c) (tbl m 1))) :
    outsAt0 m hO c t = out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (X0_0 m hO c t) (iblk m hO c 1 t) (iblk m hO c 2 t) (iblk m hO c 3 t) (iblk m hO c 4 t) (tbl m 0) (tbl m 1) h0 h1 := by
  unfold outsAt0; exact dif_pos h0

theorem outsAt0_C (hO : Ok m) (c : Dev nD) (t : Fin (cfgM m hO).N) (h0 : ¬cond0_0 (grid0.coords t) (usedWord (c := c) (tbl m 1))) (h1 : cond0_1 (grid0.coords t) (usedWord (c := c) (tbl m 1))) :
    outsAt0 m hO c t = out0_C_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (X0_0 m hO c t) (iblk m hO c 1 t) (iblk m hO c 2 t) (iblk m hO c 3 t) (iblk m hO c 4 t) (tbl m 0) (tbl m 1) h0 h1 := by
  unfold outsAt0; exact dif_neg h0

/-- What the pipeline's arrays and blocks hold, point by point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => X0_0 m hO c t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t)
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = X0_0 m hO c t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t) := by dsimp only [dats]; try rfl

theorem before0_0 (hO : Ok m) (c : Dev nD) (t : Fin (cfgM m hO).N) (d) : (dats m hO 0 c).before 0 t d = X0_0 m hO c t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

set_option maxHeartbeats 1600000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  by_cases h0 : cond0_0 (grid0.coords t) (usedWord (c := c) (tbl m 1))
  · have h1 : ¬ cond0_1 (grid0.coords t) (usedWord (c := c) (tbl m 1)) := fun h => (zero_iff _ _).1 h h0
    · rw [outsAt0_B m hO c t h0 h1]
      unfold out0_B_5
      iintro ⟨⟨HΦ, ⟨HT0, HT1⟩⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ (X0_0 m hO c t) (iblk m hO c 1 t) (iblk m hO c 2 t) (iblk m hO c 3 t) (iblk m hO c 4 t) (tbl m 0) (tbl m 1) h0 h1).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HT0]; · iexact HT0
      isplitl [HT1]; · iexact HT1
      iintro ⟨H0, H1, H2, H3, H4, ⟨%e5, H5⟩, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _ _ _)
  · have h1 : cond0_1 (grid0.coords t) (usedWord (c := c) (tbl m 1)) := (zero_iff _ _).2 h0
    · rw [outsAt0_C m hO c t h0 h1]
      unfold out0_C_5
      iintro ⟨⟨HΦ, ⟨HT0, HT1⟩⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ (X0_0 m hO c t) (iblk m hO c 1 t) (iblk m hO c 2 t) (iblk m hO c 3 t) (iblk m hO c 4 t) (tbl m 0) (tbl m 1) h0 h1).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HT0]; · iexact HT0
      isplitl [HT1]; · iexact HT1
      iintro ⟨H0, H1, H2, H3, H4, ⟨%e5, H5⟩, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _)
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  dsimp only
  generalize hi : idle0 (tbl m) 5 ((pcfg0.gridAt (tbl m)).coords t) = b
  obtain rfl : b = false := hi.symm.trans (stored _ _)
  exact triple_restated (sound_body m hO c t) rfl .rfl fun _ => .rfl

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- The program's run: every array ends at what the pipeline's data says. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The program terminates, its arguments end unchanged and every semaphore counter ends at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.ExpertsIdeal.Kit

end
-- ==== Proof.ExpertsOk.lean ====
/- The grouped experts: under the precondition every tile's group is one of the four, so every weight block lies inside
   its array and both kernels run. -/
module

public import proofs.«01_k».proof.Proof.ExpertsFrame
public import proofs.«01_k».proof.Proof.ExpertsIdealFrame
public import proofs.«01_k».proof.Proof.Gen.Pre_groups_in_range
public import proofs.«01_k».proof.Defs
public import Idealize.ShloMosaic.Lib.ReduceAll
public import Idealize.ShloMosaic.Lib.WordCmp

@[expose] public section

set_option maxRecDepth 16384

noncomputable section

namespace Cert.Proof.ExpertsOk

open Idealize.ShloMosaic Idealize.ShloMosaic.TcCoe Idealize.SL.Sem

/-- A word between 0 and 3 is one of the four numbers. -/
theorem word_of_range (x : BitVec 32) (h : IntOp.andi (IntOp.cmpi .sge x 0#32) (IntOp.cmpi .slt x 4#32) = 1#1) :
    ∃ g : Fin 4, x = BitVec.ofNat 32 g.val := by
  rw [WordCmp.cmpi_sge_eq, WordCmp.cmpi_slt_eq, WordCmp.andi_ofBool, WordCmp.ofBool_eq_one_iff, Bool.and_eq_true,
    decide_eq_true_eq, decide_eq_true_eq] at h
  have e0 : (0#32 : BitVec 32).toInt = 0 := by decide
  have e4 : (4#32 : BitVec 32).toInt = 4 := by decide
  rw [e0, e4, BitVec.toInt_eq_toNat_cond] at h
  have hx := x.isLt
  refine ⟨⟨x.toNat, ?_⟩, by simp⟩
  split at h <;> omega

/-- The precondition bounds every tile's group. -/
theorem group_of {F : FTy → Type} [FloatOps F] (x0 : IVec Pre_groups_in_range.S68 32) (x1 x2 x3 x4 x5)
    (h : Pre_groups_in_range.fn (F := F) x0 x1 x2 x3 x4 x5 = fun _ => 1#1) (j : Pre_groups_in_range.S68.Idx) :
    ∃ g : Fin 4, x0 j = BitVec.ofNat 32 g.val := by
  have : Subsingleton Pre_groups_in_range.S_.Idx := ⟨fun a b => funext fun i => i.elim0⟩
  exact word_of_range _ (Host.reduce_andi_all _ _ _ _ (fun i => i.elim0) (congrFun h fun i => i.elim0) j)

section Hardware
open Cert.Experts Cert.Experts.Gen Cert.Experts.Kit
variable {F : FTy → Type} [FloatOps F]

theorem Hw.ok_of_groups (pf : pre0.Contents (Elt F)) (h : ∀ j : S68.Idx, ∃ g : Fin 4, (pf 0 : IVec S68 32) j = BitVec.ofNat 32 g.val) : ok0 pf := by
  have hw (i : grid0.Coords) : ∃ g : Fin 4, (pf.at 0 (Rect.unit (s := S68) (k0_off1 i) S1.size (k0_off1_inb i)) numel1_S1 : BitVec 32) = BitVec.ofNat 32 g.val := h _
  refine ⟨fun i => ?_, fun i => ?_, fun i => ?_⟩
  all_goals obtain ⟨g, hg⟩ := hw i
  · have e : cc0_transform_2 k0_off1_inb numel1_S1 pf i = ![g.val, 0, 0, 0] := by
      show ![(pf.at 0 (Rect.unit (s := S68) (k0_off1 i) S1.size (k0_off1_inb i)) numel1_S1 : BitVec 32).toNat, 0, 0, 0] = _
      rw [hg, WordCmp.toNat_ofNat_of_lt (by omega)]
    rw [e]; clear e hg; revert g; decide +kernel
  · have e : cc0_transform_3 k0_off1_inb numel1_S1 pf i = ![g.val, 0, 0, 0] := by
      show ![(pf.at 0 (Rect.unit (s := S68) (k0_off1 i) S1.size (k0_off1_inb i)) numel1_S1 : BitVec 32).toNat, 0, 0, 0] = _
      rw [hg, WordCmp.toNat_ofNat_of_lt (by omega)]
    rw [e]; clear e hg; revert g; decide +kernel
  · have e : cc0_transform_4 k0_off1_inb numel1_S1 pf i = ![g.val, 0, 0, 0] := by
      show ![(pf.at 0 (Rect.unit (s := S68) (k0_off1 i) S1.size (k0_off1_inb i)) numel1_S1 : BitVec 32).toNat, 0, 0, 0] = _
      rw [hg, WordCmp.toNat_ofNat_of_lt (by omega)]
    rw [e]; clear e hg; revert g; decide +kernel

theorem Hw.ok_of_pre (m : (ℓ : Loc nD τ sig) → Buf (Elt Bits) ℓ) (h : Pre_Experts m) : Ok m := by
  refine Hw.ok_of_groups _ fun j => ?_
  show ∃ g : Fin 4, (V m 0 main_arg0 : IVec S68 32) j = BitVec.ofNat 32 g.val
  rw [V_main_arg0]
  exact group_of _ _ _ _ _ _ (h 0) j

end Hardware

section Idealized
open Cert.ExpertsIdeal Cert.ExpertsIdeal.Gen Cert.ExpertsIdeal.Kit
variable {F : FTy → Type} [FloatOps F]

theorem ok_of_groups (pf : pre0.Contents (Elt F)) (h : ∀ j : S68.Idx, ∃ g : Fin 4, (pf 0 : IVec S68 32) j = BitVec.ofNat 32 g.val) : ok0 pf := by
  have hw (i : grid0.Coords) : ∃ g : Fin 4, (pf.at 0 (Rect.unit (s := S68) (k0_off1 i) S1.size (k0_off1_inb i)) numel1_S1 : BitVec 32) = BitVec.ofNat 32 g.val := h _
  refine ⟨fun i => ?_, fun i => ?_, fun i => ?_⟩
  all_goals obtain ⟨g, hg⟩ := hw i
  · have e : cc0_transform_2 k0_off1_inb numel1_S1 pf i = ![g.val, 0, 0, 0] := by
      show ![(pf.at 0 (Rect.unit (s := S68) (k0_off1 i) S1.size (k0_off1_inb i)) numel1_S1 : BitVec 32).toNat, 0, 0, 0] = _
      rw [hg, WordCmp.toNat_ofNat_of_lt (by omega)]
    rw [e]; clear e hg; revert g; decide +kernel
  · have e : cc0_transform_3 k0_off1_inb numel1_S1 pf i = ![g.val, 0, 0, 0] := by
      show ![(pf.at 0 (Rect.unit (s := S68) (k0_off1 i) S1.size (k0_off1_inb i)) numel1_S1 : BitVec 32).toNat, 0, 0, 0] = _
      rw [hg, WordCmp.toNat_ofNat_of_lt (by omega)]
    rw [e]; clear e hg; revert g; decide +kernel
  · have e : cc0_transform_4 k0_off1_inb numel1_S1 pf i = ![g.val, 0, 0, 0] := by
      show ![(pf.at 0 (Rect.unit (s := S68) (k0_off1 i) S1.size (k0_off1_inb i)) numel1_S1 : BitVec 32).toNat, 0, 0, 0] = _
      rw [hg, WordCmp.toNat_ofNat_of_lt (by omega)]
    rw [e]; clear e hg; revert g; decide +kernel

/-- Every tile's group is one of the four. -/
theorem group (m : (ℓ : Loc nD τ sig) → Buf (Elt Ideal) ℓ) (h : Pre_ExpertsIdeal m) (c : Dev nD) (j : S68.Idx) :
    ∃ g : Fin 4, (m ((c : Thread nD τ).loc main_arg0) : IVec S68 32) j = BitVec.ofNat 32 g.val :=
  group_of _ _ _ _ _ _ (h c) j

theorem ok_of_pre (m : (ℓ : Loc nD τ sig) → Buf (Elt Ideal) ℓ) (h : Pre_ExpertsIdeal m) : Ok m := by
  refine ok_of_groups _ fun j => ?_
  show ∃ g : Fin 4, (V m 0 main_arg0 : IVec S68 32) j = BitVec.ofNat 32 g.val
  rw [V_main_arg0]
  exact group_of _ _ _ _ _ _ (h 0) j

end Idealized

end Cert.Proof.ExpertsOk
-- ==== Proof.ExpertsValue.lean ====
/- The grouped experts: what the body stores at a used tile, as a sum over the eight experts of the tile's group. -/
module

public import proofs.«01_k».proof.Proof.ExpertsIdealFrame
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Tactic.CleanTypes

@[expose] public section

set_option maxRecDepth 16384

noncomputable section

namespace Cert.Proof.ExpertsValue

open Idealize.ShloMosaic Idealize.ShloMosaic.TcCoe Idealize.SL.Sem
open Idealize.ShloMosaic.Pipeline (Dat)

/-- One expert's share of entry `n` of a token: its row `t`, its weight `w`, the expert's matrices. -/
def share (t : Fin 1024 → EReal) (w : EReal) (wg wu : Fin 1024 → Fin 256 → EReal) (wd : Fin 256 → Fin 1024 → EReal)
    (n : Fin 1024) : EReal :=
  ∑ f, ((∑ j, t j * wg j f) * Ideal.logistic (∑ j, t j * wg j f) * (∑ j, t j * wu j f)) * w * wd f n

section Kernel
open Cert.ExpertsIdeal Cert.ExpertsIdeal.Gen Cert.ExpertsIdeal.Kit

/-- The column of weights at lane `s` of a block of combine weights. -/
def laneCol (x : Vec Ideal S512x128 .f32) (s : BitVec 32) : FVec Ideal S512x1 .f32 :=
  shapeCast S512x1 (multiReduction .add [1] S512
    (select (cmpi .eq (iota .tc S512x128 32 [1] iota_S512x128_d1_w32) (broadcast S512x128 s)) x
      (broadcast S512x128 (Scalar.ofBits (F := Ideal) .f32 0x00000000#32))) 0x00000000#32 reduces_S512x128_S512 (.inl rfl) rfl)
    shapeCasts_S512_S512x1

/-- A gate or an input projection of one expert. -/
def proj (h : FVec Ideal S512x1024 .bf16) (g : Vec Ideal S1x1x1024x256 .bf16) : FVec Ideal S512x256 .f32 :=
  matmul dot_S512x1024_S1024x256_S512x256_1_0_0_1_n_n (φ₂ := .bf16) none h
    (shapeCast S1024x256 (show FVec Ideal S1x1x1024x256 .bf16 from g) shapeCasts_S1x1x1024x256_S1024x256)
    (constant (F := Ideal) S512x256 .f32 0x00000000#32)

/-- One expert's share of a block of rows. -/
def shareBlock (h : FVec Ideal S512x1024 .bf16) (w : FVec Ideal S512x1 .f32) (g u : Vec Ideal S1x1x1024x256 .bf16)
    (d : Vec Ideal S1x1x256x1024 .bf16) : FVec Ideal S512x1024 .f32 :=
  matmul dot_S512x256_S256x1024_S512x1024_1_0_0_1_n_n (φ₂ := .bf16) none
    (truncf .bf16 (mulf (mulf (mulf (proj h g) (logistic (proj h g))) (proj h u)) (broadcastTo S512x256 w broadcasts_S512x1_S512x256))
      bitsLt_bf16_f32)
    (shapeCast S256x1024 (show FVec Ideal S1x1x256x1024 .bf16 from d) shapeCasts_S1x1x256x1024_S256x1024) (constant (F := Ideal) S512x1024 .f32 0x00000000#32)

theorem shareBlock_entry (h : FVec Ideal S512x1024 .bf16) (w : FVec Ideal S512x1 .f32) (g u : Vec Ideal S1x1x1024x256 .bf16)
    (d : Vec Ideal S1x1x256x1024 .bf16) (r : Fin 512) (n : Fin 1024) :
    shareBlock h w g u d (ix2 r n) = share (fun j => h (ix2 r j)) (w (ix2 r 0)) (fun j f => g (ix4 0 0 j f))
      (fun j f => u (ix4 0 0 j f)) (fun f k => d (ix4 0 0 f k)) n := by
  unfold share
  pointwise [shareBlock, proj]

/-- The masked sum over the lanes is the masked lane. -/
theorem lane_sum (y : Fin 128 → EReal) (s : BitVec 32) (hs : s.toNat < 128) :
    ∑ j : Fin 128, Scalar.select (IntOp.cmpi CmpIPredicate.eq (BitVec.ofNat 32 j.val) s) (y j) 0 = y ⟨s.toNat, hs⟩ := by
  rw [Finset.sum_eq_single (⟨s.toNat, hs⟩ : Fin 128)]
  · simp [Scalar.select, IntOp.cmpi]
  · intro j _ hj
    have h : (BitVec.ofNat 32 j.val == s) = false := beq_eq_false_iff_ne.2 fun h => hj (Fin.ext (by
      have h := congrArg BitVec.toNat h
      rw [BitVec.toNat_ofNat, Nat.mod_eq_of_lt (by omega)] at h
      exact h))
    simp [Scalar.select, IntOp.cmpi, h]
  · simp

/-- Expert `k` of group `g` has lane `8 g + k`. -/
theorem lane_toNat (tg : BitVec 32) (k : Nat) (hk : k < 8) (g : Fin 4) (hg : tg = BitVec.ofNat 32 g.val) :
    (Scalar.addi (Scalar.muli tg 8#32) (BitVec.ofNat 32 k)).toNat = 8 * g.val + k := by
  subst hg
  simp only [Scalar.addi, Scalar.muli, IntOp.addi, IntOp.muli, BitVec.toNat_add, BitVec.toNat_mul, BitVec.toNat_ofNat]
  omega

theorem laneCol_entry (x : Vec Ideal S512x128 .f32) (s : BitVec 32) (hs : s.toNat < 128) (r : Fin 512) :
    laneCol x s (ix2 r 0) = x (ix2 r ⟨s.toNat, hs⟩) := by
  pointwise [laneCol]
  exact lane_sum (fun j => x (ix2 r j)) s hs

/-- What the body stores at a used tile: the eight shares, one after the other. -/
def used (x0 : Vec Ideal S512x1024 .f32) (tg : BitVec 32) (x1 : Vec Ideal S512x128 .f32) (g u : Fin 8 → Vec Ideal S1x1x1024x256 .bf16)
    (d : Fin 8 → Vec Ideal S1x1x256x1024 .bf16) : FVec Ideal S512x1024 .f32 :=
  k0_pay1 (k0_pay3 x0) (Scalar.muli tg 8#32) (iota .tc S512x128 32 [1] iota_S512x128_d1_w32) x1
    (k0_pay13 (k0_pay3 x0)
      (k0_pay10 (k0_pay3 x0) (iota .tc S512x128 32 [1] iota_S512x128_d1_w32) x1
        (k0_pay9 (k0_pay3 x0) (Scalar.muli tg 8#32) (iota .tc S512x128 32 [1] iota_S512x128_d1_w32) x1
          (k0_pay6 (k0_pay3 x0) x1 (k0_pay4 x0 tg x1 (g 0) (u 0) (d 0)) (k0_pay5 (F := Ideal) tg) (Scalar.ofBits .f32 0x00000000#32) (g 1) (u 1) (d 1))
          (k0_pay7 (Scalar.muli tg 8#32) (iota .tc S512x128 32 [1] iota_S512x128_d1_w32) x1) (k0_pay8 (k0_pay3 x0) (g 2)) (u 2) (d 2)
          (g 3) (u 3) (d 3))
        (Scalar.addi (Scalar.muli tg 8#32) 4#32) (g 4) (u 4) (d 4))
      (k0_pay11 (Scalar.muli tg 8#32) (iota .tc S512x128 32 [1] iota_S512x128_d1_w32) x1) (k0_pay12 (k0_pay3 x0) (g 5)) (u 5) (d 5))
    (k0_pay14 (k0_pay3 x0) (Scalar.muli tg 8#32) (iota .tc S512x128 32 [1] iota_S512x128_d1_w32) x1 (g 6) (u 6) (d 6)) (g 7) (u 7) (d 7)

theorem used_shares (x0 : Vec Ideal S512x1024 .f32) (tg : BitVec 32) (x1 : Vec Ideal S512x128 .f32) (g u : Fin 8 → Vec Ideal S1x1x1024x256 .bf16)
    (d : Fin 8 → Vec Ideal S1x1x256x1024 .bf16) :
    used x0 tg x1 g u d =
      addf (addf (addf (addf (addf (addf (addf (addf k0_pay2
        (shareBlock (k0_pay3 x0) (laneCol x1 (Scalar.addi (Scalar.muli tg 8#32) 0#32)) (g 0) (u 0) (d 0)))
        (shareBlock (k0_pay3 x0) (laneCol x1 (Scalar.addi (Scalar.muli tg 8#32) 1#32)) (g 1) (u 1) (d 1)))
        (shareBlock (k0_pay3 x0) (laneCol x1 (Scalar.addi (Scalar.muli tg 8#32) 2#32)) (g 2) (u 2) (d 2)))
        (shareBlock (k0_pay3 x0) (laneCol x1 (Scalar.addi (Scalar.muli tg 8#32) 3#32)) (g 3) (u 3) (d 3)))
        (shareBlock (k0_pay3 x0) (laneCol x1 (Scalar.addi (Scalar.muli tg 8#32) 4#32)) (g 4) (u 4) (d 4)))
        (shareBlock (k0_pay3 x0) (laneCol x1 (Scalar.addi (Scalar.muli tg 8#32) 5#32)) (g 5) (u 5) (d 5)))
        (shareBlock (k0_pay3 x0) (laneCol x1 (Scalar.addi (Scalar.muli tg 8#32) 6#32)) (g 6) (u 6) (d 6)))
        (shareBlock (k0_pay3 x0) (laneCol x1 (Scalar.addi (Scalar.muli tg 8#32) 7#32)) (g 7) (u 7) (d 7)) := rfl

/-- Entry `n` of the result at a token of group `g`: the eight experts' shares, with the token's weights. -/
def mixed (t : Fin 1024 → EReal) (w : Fin 8 → EReal) (wg wu : Fin 8 → Fin 1024 → Fin 256 → EReal)
    (wd : Fin 8 → Fin 256 → Fin 1024 → EReal) (n : Fin 1024) : EReal := ∑ e, share t (w e) (wg e) (wu e) (wd e) n

theorem used_entry (x0 : Vec Ideal S512x1024 .f32) (tg : BitVec 32) (g' : Fin 4) (hg : tg = BitVec.ofNat 32 g'.val)
    (x1 : Vec Ideal S512x128 .f32) (g u : Fin 8 → Vec Ideal S1x1x1024x256 .bf16)
    (d : Fin 8 → Vec Ideal S1x1x256x1024 .bf16) (r : Fin 512) (n : Fin 1024) :
    used x0 tg x1 g u d (ix2 r n) = mixed (fun j => x0 (ix2 r j)) (fun e => x1 (ix2 r ⟨8 * g'.val + e.val, by omega⟩))
      (fun e j f => g e (ix4 0 0 j f)) (fun e j f => u e (ix4 0 0 j f)) (fun e f k => d e (ix4 0 0 f k)) n := by
  have H (k : Fin 8) : shareBlock (k0_pay3 x0) (laneCol x1 (Scalar.addi (Scalar.muli tg 8#32) (BitVec.ofNat 32 k.val))) (g k) (u k) (d k) (ix2 r n)
      = share (fun j => x0 (ix2 r j)) (x1 (ix2 r ⟨8 * g'.val + k.val, by omega⟩)) (fun j f => g k (ix4 0 0 j f))
        (fun j f => u k (ix4 0 0 j f)) (fun f n => d k (ix4 0 0 f n)) n := by
    have hl := lane_toNat tg k.val k.isLt g' hg
    rw [shareBlock_entry, laneCol_entry x1 _ (by omega)]
    simp only [hl]
    rfl
  rw [used_shares, mixed]
  simp only [Fin.sum_univ_eight, ← H]
  have h0 : (k0_pay2 (F := Ideal)) (ix2 r n) = 0 := by pointwise [k0_pay2]
  show (((((((k0_pay2 (F := Ideal) (ix2 r n) + _) + _) + _) + _) + _) + _) + _) + _ = _
  rw [h0, zero_add]
  rfl

end Kernel

end Cert.Proof.ExpertsValue

end
-- ==== Proof.ExpertsFinal.lean ====
/- The grouped experts, kernel side: every block of every window as a part of its argument array, and from it the entries of
   the array the kernel leaves. -/
module

public import proofs.«01_k».proof.Proof.ExpertsValue
public import Idealize.ShloMosaic.Lib.Pipeline.Covers

@[expose] public section

set_option maxRecDepth 16384

noncomputable section

namespace Cert.Proof.ExpertsValue

open Idealize.ShloMosaic Idealize.ShloMosaic.TcCoe Idealize.SL.Sem
open Idealize.ShloMosaic.Pipeline (Dat)
section Kernel
open Cert.ExpertsIdeal Cert.ExpertsIdeal.Gen Cert.ExpertsIdeal.Kit

variable (m : (ℓ : Loc nD τ sig) → Buf (Elt Ideal) ℓ)

/-- The group of tile `t` as the launch reads it. -/
abbrev word (pf : pre0.Contents (Elt Ideal)) (t : Fin grid0.N) : BitVec 32 :=
  pf.at 0 (Rect.unit (s := S68) (k0_off1 (grid0.coords t)) S1.size (k0_off1_inb (grid0.coords t))) numel1_S1

/-! The index maps as numbers. -/

theorem tr0 : ∀ t : Fin grid0.N, cc0_transform_0 (grid0.coords t) 0 = t.val ∧ cc0_transform_0 (grid0.coords t) 1 = 0 := by decide +kernel
theorem tr1 : ∀ t : Fin grid0.N, cc0_transform_1 (grid0.coords t) 0 = t.val ∧ cc0_transform_1 (grid0.coords t) 1 = 8 := by decide +kernel
/-! The windows' blocks at a point, entry by entry. -/

theorem i1_entry (hO : Ok m) (c : Dev nD) (t : Fin (cfgM m hO).N) (r : Fin 512) (j : Fin 128) (hr hj):
   iblk m hO c 1 t (ix2 r j) = V m c main_arg2 (ix2 ⟨512 * t.val + r.val, hr⟩ ⟨1024 + j.val, hj⟩) := by
  refine congrArg (V m c main_arg2) (funext fun a => Fin.ext ?_)
  match a with
  | ⟨0, _⟩ =>
    show cc0_transform_1 (grid0.coords t) 0 * 512 + 1 * r.val = 512 * t.val + r.val
    rw [(tr1 t).1]; omega
  | ⟨1, _⟩ =>
    show cc0_transform_1 (grid0.coords t) 1 * 128 + 1 * j.val = 1024 + j.val
    rw [(tr1 t).2]; omega
theorem X0_entry (hO : Ok m) (c : Dev nD) (t : Fin (cfgM m hO).N) (r : Fin 512) (j : Fin 1024) (hr hj):
   X0_0 m hO c t (ix2 r j) = V m c main_arg2 (ix2 ⟨512 * t.val + r.val, hr⟩ ⟨j.val, hj⟩) := by
  unfold X0_0 Pipeline.Window.fill
  rw [dif_pos (moved0_0 m hO t (ix2 r j))]
  refine congrArg (V m c main_arg2) (funext fun a => Fin.ext ?_)
  match a with
  | ⟨0, _⟩ =>
    show cc0_transform_0 (grid0.coords t) 0 * 512 + 1 * r.val = 512 * t.val + r.val
    rw [(tr0 t).1]; omega
  | ⟨1, _⟩ =>
    show cc0_transform_0 (grid0.coords t) 1 * 1024 + 1 * j.val = j.val
    rw [(tr0 t).2]; omega
theorem i2_entry (hO : Ok m) (c : Dev nD) (t : Fin (cfgM m hO).N) (r : Fin 8) (j : Fin 1024) (f : Fin 256) (g : Fin 4) (hg : word (tbl m) t = BitVec.ofNat 32 g.val) :
   iblk m hO c 2 t (ix4 0 r j f) = V m c main_v0 (ix4 g r j f) := by
  refine congrArg (V m c main_v0) (funext fun a => Fin.ext ?_)
  match a with
  | ⟨0, _⟩ =>
    show (word (tbl m) t).toNat * 1 + 1 * 0 = g.val
    rw [hg, WordCmp.toNat_ofNat_of_lt (by omega)]; omega
  | ⟨1, _⟩ => show 0 * 8 + 1 * r.val = r.val; omega
  | ⟨2, _⟩ => show 0 * 1024 + 1 * j.val = j.val; omega
  | ⟨3, _⟩ => show 0 * 256 + 1 * f.val = f.val; omega

theorem i3_entry (hO : Ok m) (c : Dev nD) (t : Fin (cfgM m hO).N) (r : Fin 8) (j : Fin 1024) (f : Fin 256) (g : Fin 4) (hg : word (tbl m) t = BitVec.ofNat 32 g.val) :
   iblk m hO c 3 t (ix4 0 r j f) = V m c main_v1 (ix4 g r j f) := by
  refine congrArg (V m c main_v1) (funext fun a => Fin.ext ?_)
  match a with
  | ⟨0, _⟩ =>
    show (word (tbl m) t).toNat * 1 + 1 * 0 = g.val
    rw [hg, WordCmp.toNat_ofNat_of_lt (by omega)]; omega
  | ⟨1, _⟩ => show 0 * 8 + 1 * r.val = r.val; omega
  | ⟨2, _⟩ => show 0 * 1024 + 1 * j.val = j.val; omega
  | ⟨3, _⟩ => show 0 * 256 + 1 * f.val = f.val; omega
theorem i4_entry (hO : Ok m) (c : Dev nD) (t : Fin (cfgM m hO).N) (r : Fin 8) (j : Fin 256) (f : Fin 1024) (g : Fin 4) (hg : word (tbl m) t = BitVec.ofNat 32 g.val) :
   iblk m hO c 4 t (ix4 0 r j f) = V m c main_v2 (ix4 g r j f) := by
  refine congrArg (V m c main_v2) (funext fun a => Fin.ext ?_)
  match a with
  | ⟨0, _⟩ =>
    show (word (tbl m) t).toNat * 1 + 1 * 0 = g.val
    rw [hg, WordCmp.toNat_ofNat_of_lt (by omega)]; omega
  | ⟨1, _⟩ => show 0 * 8 + 1 * r.val = r.val; omega
  | ⟨2, _⟩ => show 0 * 256 + 1 * j.val = j.val; omega
  | ⟨3, _⟩ => show 0 * 1024 + 1 * f.val = f.val; omega
/-- It is the table's word at the tile. -/
theorem word_at (pf : pre0.Contents (Elt Ideal)) (t : Fin grid0.N) : word pf t = (pf 0 : IVec S68 32) (ix1 t) := by
  refine congrArg (pf 0 : IVec S68 32) (funext fun a => Fin.ext ?_)
  match a with
  | ⟨0, _⟩ =>
    show (BitVec.ofNat 32 (grid0.coords t 0).val).toNat + 1 * 0 = t.val
    revert t; decide +kernel
/-! The weights as the host passes them on are the arguments: a cast changes nothing over the extended reals. -/

theorem V_main_v0 (c : Dev nD) : (V m c main_v0 : Vec Ideal S4x8x1024x256 .bf16) = (m ((c : Thread nD τ).loc main_arg3) : Vec Ideal S4x8x1024x256 .f32) := by
  unfold V
  simp only [hostOps0]
  after_results_simp
  rfl
theorem V_main_v1 (c : Dev nD) : (V m c main_v1 : Vec Ideal S4x8x1024x256 .bf16) = (m ((c : Thread nD τ).loc main_arg4) : Vec Ideal S4x8x1024x256 .f32) := by
  unfold V
  simp only [hostOps0]
  after_results_simp
  rfl
theorem V_main_v2 (c : Dev nD) : (V m c main_v2 : Vec Ideal S4x8x256x1024 .bf16) = (m ((c : Thread nD τ).loc main_arg5) : Vec Ideal S4x8x256x1024 .f32) := by
  unfold V
  simp only [hostOps0]
  after_results_simp
  rfl
theorem tr5 : ∀ t : Fin grid0.N, cc0_transform_5 (grid0.coords t) 0 = t.val ∧ cc0_transform_5 (grid0.coords t) 1 = 0 := by decide +kernel
/-- The blocks the points store cover the result. -/
theorem covers5 (hO : Ok m) : ((cfgM m hO).win 5).Covers := by
  refine Pipeline.Window.covers_of_index_surj _ rfl (by show ∀ a, 0 < S512x1024.size a; decide) fun β => ?_
  have n0 : ((cfgM m hO).win 5).nblk (0 : Fin 2) = 68 := by
    show (34816 + 512 - 1) / 512 = 68
    rfl
  have n1 : ((cfgM m hO).win 5).nblk (1 : Fin 2) = 1 := by
    show (1024 + 1024 - 1) / 1024 = 1
    rfl
  have l0 := (β (0 : Fin 2)).isLt.trans_eq n0
  have l1 := (β (1 : Fin 2)).isLt.trans_eq n1
  refine ⟨(⟨(β (0 : Fin 2)).val, l0⟩ : Fin 68), fun a => ?_⟩
  match a with
  | ⟨0, _⟩ => exact (tr5 ⟨(β (0 : Fin 2)).val, l0⟩).1
  | ⟨1, _⟩ => exact (tr5 ⟨(β (0 : Fin 2)).val, l0⟩).2.trans (Nat.lt_one_iff.1 l1).symm
/-- The experts are computed at the tiles below the count. -/
theorem cond_iff (t : Fin grid0.N) (v : BitVec 32) : cond0_0 (grid0.coords t) v ↔ IntOp.cmpi .slt (BitVec.ofNat 32 t.val) v = 1#1 := by
  have h : (grid0.coords t 0).val = t.val := by revert t; decide +kernel
  unfold cond0_0 k0_cond1
  rw [h]
  show IntOp.cmpi .ne ((IntOp.cmpi .slt (BitVec.ofNat 32 t.val) v).setWidth 32) 0#32 = 1#1 ↔ _
  generalize IntOp.cmpi .slt (BitVec.ofNat 32 t.val) v = x
  revert x; decide

/-- The matrix of one expert of a block, as the body loads it. -/
def slab (x : Vec Ideal S1x8x1024x256 .bf16) (e : Fin 8) : Vec Ideal S1x1x1024x256 .bf16 :=
  View.ld x (Rect.unit ![0, e.val, 0, 0] ![1, 1, 1024, 256] (by revert e; decide))
def slabD (x : Vec Ideal S1x8x256x1024 .bf16) (e : Fin 8) : Vec Ideal S1x1x256x1024 .bf16 :=
  View.ld x (Rect.unit ![0, e.val, 0, 0] ![1, 1, 256, 1024] (by revert e; decide))
theorem slab_entry (x : Vec Ideal S1x8x1024x256 .bf16) (e : Fin 8) (j : Fin 1024) (f : Fin 256) : slab x e (ix4 0 0 j f) = x (ix4 0 e j f) := by
  refine congrArg x (funext fun a => Fin.ext ?_)
  match a with
  | ⟨0, _⟩ => rfl
  | ⟨1, _⟩ => show e.val + 1 * 0 = e.val; omega
  | ⟨2, _⟩ => show 0 + 1 * j.val = j.val; omega
  | ⟨3, _⟩ => show 0 + 1 * f.val = f.val; omega
theorem slabD_entry (x : Vec Ideal S1x8x256x1024 .bf16) (e : Fin 8) (f : Fin 256) (n : Fin 1024) : slabD x e (ix4 0 0 f n) = x (ix4 0 e f n) := by
  refine congrArg x (funext fun a => Fin.ext ?_)
  match a with
  | ⟨0, _⟩ => rfl
  | ⟨1, _⟩ => show e.val + 1 * 0 = e.val; omega
  | ⟨2, _⟩ => show 0 + 1 * f.val = f.val; omega
  | ⟨3, _⟩ => show 0 + 1 * n.val = n.val; omega

/-- The layer's routed experts: row `r` of tile `r / 512` passes through the experts of the tile's group `grp`, its combine
    weights behind its row; past the first `nu` tiles the result is zero. -/
def result (grp : Fin 68 → Fin 4) (nu : BitVec 32) (x : Vec Ideal S34816x1152 .f32) (wg wu : Vec Ideal S4x8x1024x256 .f32)
    (wd : Vec Ideal S4x8x256x1024 .f32) (r : Fin 34816) (n : Fin 1024) : EReal :=
  if IntOp.cmpi .slt (BitVec.ofNat 32 (r.val / 512)) nu = 1#1 then
    mixed (fun j => x (ix2 r ⟨j.val, by omega⟩))
      (fun e => x (ix2 r ⟨1024 + (8 * (grp ⟨r.val / 512, by omega⟩).val + e.val), by omega⟩))
      (fun e j f => wg (ix4 (grp ⟨r.val / 512, by omega⟩) e j f)) (fun e j f => wu (ix4 (grp ⟨r.val / 512, by omega⟩) e j f))
      (fun e f k => wd (ix4 (grp ⟨r.val / 512, by omega⟩) e f k)) n
  else 0

/-- The blocks at a point, at their literal shapes. -/
def B0 (hO : Ok m) (c : Dev nD) (t : Fin grid0.N) : Vec Ideal S512x1024 .f32 := X0_0 m hO c t
def B1 (hO : Ok m) (c : Dev nD) (t : Fin grid0.N) : Vec Ideal S512x128 .f32 := iblk m hO c 1 t
def B2 (hO : Ok m) (c : Dev nD) (t : Fin grid0.N) : Vec Ideal S1x8x1024x256 .bf16 := iblk m hO c 2 t
def B3 (hO : Ok m) (c : Dev nD) (t : Fin grid0.N) : Vec Ideal S1x8x1024x256 .bf16 := iblk m hO c 3 t
def B4 (hO : Ok m) (c : Dev nD) (t : Fin grid0.N) : Vec Ideal S1x8x256x1024 .bf16 := iblk m hO c 4 t

/-- The argument arrays of the kernel's program, at their literal shapes. -/
abbrev rowsArr (c : Dev nD) : Vec Ideal S34816x1152 .f32 := m ((c : Thread nD τ).loc main_arg2)
abbrev gateArr (c : Dev nD) : Vec Ideal S4x8x1024x256 .f32 := m ((c : Thread nD τ).loc main_arg3)
abbrev inArr (c : Dev nD) : Vec Ideal S4x8x1024x256 .f32 := m ((c : Thread nD τ).loc main_arg4)
abbrev outArr (c : Dev nD) : Vec Ideal S4x8x256x1024 .f32 := m ((c : Thread nD τ).loc main_arg5)

theorem B0_entry (hO : Ok m) (c : Dev nD) (t : Fin grid0.N) (r : Fin 512) (j : Fin 1024) (hr hj) :
    B0 m hO c t (ix2 r j) = rowsArr m c (ix2 ⟨512 * t.val + r.val, hr⟩ ⟨j.val, hj⟩) :=
  (X0_entry m hO c t r j hr hj).trans (congrFun (V_main_arg2 m c) _)
theorem B1_entry (hO : Ok m) (c : Dev nD) (t : Fin grid0.N) (r : Fin 512) (j : Fin 128) (hr hj) :
    B1 m hO c t (ix2 r j) = rowsArr m c (ix2 ⟨512 * t.val + r.val, hr⟩ ⟨1024 + j.val, hj⟩) :=
  (i1_entry m hO c t r j hr hj).trans (congrFun (V_main_arg2 m c) _)
theorem B2_entry (hO : Ok m) (c : Dev nD) (t : Fin grid0.N) (e : Fin 8) (j : Fin 1024) (f : Fin 256) (g : Fin 4)
    (hg : word (tbl m) t = BitVec.ofNat 32 g.val) : B2 m hO c t (ix4 0 e j f) = gateArr m c (ix4 g e j f) :=
  (i2_entry m hO c t e j f g hg).trans (congrFun (V_main_v0 m c) _)
theorem B3_entry (hO : Ok m) (c : Dev nD) (t : Fin grid0.N) (e : Fin 8) (j : Fin 1024) (f : Fin 256) (g : Fin 4)
    (hg : word (tbl m) t = BitVec.ofNat 32 g.val) : B3 m hO c t (ix4 0 e j f) = inArr m c (ix4 g e j f) :=
  (i3_entry m hO c t e j f g hg).trans (congrFun (V_main_v1 m c) _)
theorem B4_entry (hO : Ok m) (c : Dev nD) (t : Fin grid0.N) (e : Fin 8) (f : Fin 256) (n : Fin 1024) (g : Fin 4)
    (hg : word (tbl m) t = BitVec.ofNat 32 g.val) : B4 m hO c t (ix4 0 e f n) = outArr m c (ix4 g e f n) :=
  (i4_entry m hO c t e f n g hg).trans (congrFun (V_main_v2 m c) _)

/-- What a used tile stores is its rows' result. -/
theorem used_value (hO : Ok m) (c : Dev nD) (grp : Fin 68 → Fin 4)
    (hgrp : ∀ j, (tbl m 0 : IVec S68 32) (ix1 j) = BitVec.ofNat 32 (grp j).val) (t : Fin grid0.N) (nu : BitVec 32)
    (h0 : cond0_0 (grid0.coords t) nu) (r : Fin 512) (n : Fin 1024) (hr) :
    used (B0 m hO c t) (word (tbl m) t) (B1 m hO c t) (slab (B2 m hO c t)) (slab (B3 m hO c t)) (slabD (B4 m hO c t)) (ix2 r n)
    = result grp nu (rowsArr m c) (gateArr m c) (inArr m c) (outArr m c) ⟨512 * t.val + r.val, hr⟩ n := by
  have ht : t.val < 68 := t.isLt
  have hq : (512 * t.val + r.val) / 512 = t.val := by omega
  have hw : word (tbl m) t = BitVec.ofNat 32 (grp t).val := (word_at (tbl m) t).trans (hgrp t)
  rw [used_entry _ _ (grp t) hw]
  unfold result
  simp only [hq]
  rw [if_pos ((cond_iff t _).1 h0)]
  simp only [slab_entry, slabD_entry, B2_entry m hO c t _ _ _ (grp t) hw, B3_entry m hO c t _ _ _ (grp t) hw,
    B4_entry m hO c t _ _ _ (grp t) hw, fun j => B0_entry m hO c t r j hr (by omega), fun j => B1_entry m hO c t r j hr (by omega)]
  rfl

/-- What an unused tile stores is its rows' result. -/
theorem unused_value (c : Dev nD) (grp : Fin 68 → Fin 4) (t : Fin grid0.N) (nu : BitVec 32)
    (h0 : ¬ cond0_0 (grid0.coords t) nu) (r : Fin 512) (n : Fin 1024) (hr) :
    k0_pay2 (F := Ideal) (ix2 r n)
    = result grp nu (rowsArr m c) (gateArr m c) (inArr m c) (outArr m c) ⟨512 * t.val + r.val, hr⟩ n := by
  have hq : (512 * t.val + r.val) / 512 = t.val := by omega
  unfold result
  simp only [hq]
  rw [if_neg (mt (cond_iff t _).2 h0)]
  pointwise [k0_pay2]

/-- Where an entry of a stored block lies in the result. -/
theorem emb5 (hO : Ok m) (t : Fin grid0.N) (r : Fin 512) (n : Fin 1024) (hr) :
    (((spec0 5).arr.view.slice ((pcfg0.win (adm m hO) 5).rect t)).emb (ix2 r n) : S34816x1024.Idx) = ix2 ⟨512 * t.val + r.val, hr⟩ n := by
  refine funext fun a => Fin.ext ?_
  match a with
  | ⟨0, _⟩ =>
    show cc0_transform_5 (grid0.coords t) 0 * 512 + 1 * r.val = 512 * t.val + r.val
    rw [(tr5 t).1]; omega
  | ⟨1, _⟩ =>
    show cc0_transform_5 (grid0.coords t) 1 * 1024 + 1 * n.val = n.val
    rw [(tr5 t).2]; omega

/-- The loads' values replaced by equal ones. -/
theorem used_congr {x0 x0' : Vec Ideal S512x1024 .f32} {tg tg' : BitVec 32} {x1 x1' : Vec Ideal S512x128 .f32}
    {x2 x2' x3 x3' : Vec Ideal S1x8x1024x256 .bf16} {x4 x4' : Vec Ideal S1x8x256x1024 .bf16} (e0 : x0 = x0') (et : tg = tg')
    (e1 : x1 = x1') (e2 : x2 = x2') (e3 : x3 = x3') (e4 : x4 = x4') :
    used x0 tg x1 (slab x2) (slab x3) (slabD x4) = used x0' tg' x1' (slab x2') (slab x3') (slabD x4') := by
  subst e0 et e1 e2 e3 e4; rfl

/-- What the kernel leaves in the result array. -/
def kernelResult (grp : Fin 68 → Fin 4) (c : Dev nD) : Vec Ideal S34816x1024 .f32 := fun y =>
  result grp (usedWord (c := c) (tbl m 1)) (rowsArr m c) (gateArr m c) (inArr m c) (outArr m c) (y 0) (y 1)

/-- A block whose rows are the result's is the result's part there. -/
theorem block_value (hO : Ok m) (c : Dev nD) (grp : Fin 68 → Fin 4) (t : Fin grid0.N) (f : Vec Ideal S512x1024 .f32)
    (hf : ∀ r n hr, f (ix2 r n) = result grp (usedWord (c := c) (tbl m 1)) (rowsArr m c) (gateArr m c) (inArr m c) (outArr m c) ⟨512 * t.val + r.val, hr⟩ n)
    (y : S512x1024.Idx) :
    f y = kernelResult m grp c (((spec0 5).arr.view.slice ((pcfg0.win (adm m hO) 5).rect t)).emb y) := by
  obtain ⟨r, n, rfl⟩ : ∃ (r : Fin 512) (n : Fin 1024), y = ix2 r n := ⟨y 0, y 1, (ix2_eta y).symm⟩
  have ht : t.val < 68 := t.isLt
  exact (hf r n (by omega)).trans (congrArg (kernelResult m grp c) (emb5 m hO t r n (by omega))).symm

/-- The array after the kernel's last point. -/
theorem final (hO : Ok m) (c : Dev nD) (grp : Fin 68 → Fin 4)
    (hgrp : ∀ j, (tbl m 0 : IVec S68 32) (ix1 j) = BitVec.ofNat 32 (grp j).val) :
    (dats m hO 0 c).arrAt 5 (cfgM m hO).N = kernelResult m grp c := by
  refine (dats m hO 0 c).arrAt_eq_of_covers 5 _ (covers5 m hO) fun t hf y => ?_
  blk_simp
  rw [after0_5]
  by_cases h0 : cond0_0 (grid0.coords t) (usedWord (c := c) (tbl m 1))
  · rw [outsAt0_B m hO c t h0 (fun h => (zero_iff _ _).1 h h0)]
    frame_out
    refine Eq.trans (b := used (B0 m hO c t) (word (tbl m) t) (B1 m hO c t) (slab (B2 m hO c t)) (slab (B3 m hO c t)) (slabD (B4 m hO c t)) y) ?_ ?_
    · exact congrFun (used_congr ((hs0_0 m hO t).read_unread (B0 m hO c t)) rfl ((hs0_1 m hO t).read_unread (B1 m hO c t))
        ((hs0_2 m hO t).read_unread (B2 m hO c t)) ((hs0_3 m hO t).read_unread (B3 m hO c t)) ((hs0_4 m hO t).read_unread (B4 m hO c t))) y
    · exact block_value m hO c grp t _ (fun r n hr => used_value m hO c grp hgrp t _ h0 r n hr) y
  · rw [outsAt0_C m hO c t h0 ((zero_iff _ _).2 h0)]
    frame_out
    exact block_value m hO c grp t _ (fun r n hr => unused_value m c grp t _ h0 r n hr) y

end Kernel

end Cert.Proof.ExpertsValue

end
-- ==== Proof.ExpertsAlgebraic.lean ====
/- The grouped experts: the entries of the reference's result, and that kernel and reference compute the same function. -/
module

public import proofs.«01_k».proof.Proof.Gen.ExpertsRefIdeal.Run
public import proofs.«01_k».proof.Proof.ExpertsFinal
public import proofs.«01_k».proof.Proof.ExpertsOk

@[expose] public section

set_option maxRecDepth 16384

noncomputable section

namespace Cert.Proof.ExpertsValue

open Idealize.ShloMosaic Idealize.ShloMosaic.TcCoe Idealize.SL.Sem
section Reference
open Cert.ExpertsRefIdeal Cert.ExpertsRefIdeal.Gen

/-- The reference's combine weights: a row's weights in its own group's place, zeros in the other groups'. -/
def comb (tg : IVec S68 32) (nu : IVec S1 32) (x : FVec Ideal S34816x1152 .f32) : FVec Ideal S34816x4x8 .f32 :=
  select (broadcastInDim S34816x4x8 ![0, 1, 2] bcast_S34816x4x1_S34816x4x8_0_1_2 (cmpi .eq (broadcastInDim S34816x4x1 ![0, 1, 2] bcast_S34816x1x1_S34816x4x1_0_1_2 (broadcastInDim S34816x1x1 ![0] bcast_S34816_S34816x1x1_0 (shapeCast _ (broadcastInDim S68x512 ![0, 1] bcast_S68x1_S68x512_0_1 (broadcastInDim S68x1 ![0] bcast_S68_S68x1_0 (select (cmpi .slt (iotaInDim S68 32 0) (broadcastInDim S68 ![0] bcast_S1_S68_0 nu)) tg (broadcastInDim S68 ![] bcast_S_S68 (id (constantI S_ 32 4294967295#32)))))) shapeCasts_S68x512_S34816))) (broadcastInDim S34816x4x1 ![0, 1, 2] bcast_S1x4x1_S34816x4x1_0_1_2 (broadcastInDim S1x4x1 ![1] bcast_S4_S1x4x1_1 (iotaInDim S4 32 0))))) (shapeCast _ (extractStridedSlice S34816x32 ![0, 1024] x slices_S34816x1152_S34816x32_0_1024) shapeCasts_S34816x32_S34816x4x8) (broadcastInDim S34816x4x8 ![] bcast_S_S34816x4x8 (id (constant S_ .f32 0x00000000#32)))

/-- A gate or an input projection of a group's eight experts. -/
def projs (x : FVec Ideal S34816x1152 .f32) (w : FVec Ideal S1x8x1024x256 .f32) : FVec Ideal S34816x8x256 .f32 :=
  Host.dotGeneral dot_S34816x1024_S8x1024x256_S34816x8x256_1_1_0_02_n_n none (extractStridedSlice S34816x1024 ![0, 0] x slices_S34816x1152_S34816x1024_0_0) (shapeCast _ w shapeCasts_S1x8x1024x256_S8x1024x256)

/-- The gates' activation. -/
def act (p : FVec Ideal S34816x8x256 .f32) : FVec Ideal S34816x8x256 .f32 :=
  mulf p (Host.divf (broadcastInDim S34816x8x256 ![] bcast_S_S34816x8x256 (constant S_ .f32 0x3F800000#32)) (addf (broadcastInDim S34816x8x256 ![] bcast_S_S34816x8x256 (constant S_ .f32 0x3F800000#32)) (Host.exp (Host.negf p))))

/-- What one group adds: its eight experts on every row, under that group's place of the weights. -/
def groupOut (x : FVec Ideal S34816x1152 .f32) (cw : FVec Ideal S34816x1x8 .f32) (wg wu : FVec Ideal S1x8x1024x256 .f32)
    (wd : FVec Ideal S1x8x256x1024 .f32) : FVec Ideal S34816x1024 .f32 :=
  Host.dotGeneral dot_S34816x8x256_S8x256x1024_S34816x1024_12_01_0_2_n_n none
    (mulf (mulf (act (projs x wg)) (projs x wu))
      (broadcastInDim S34816x8x256 ![0, 1, 2] bcast_S34816x8x1_S34816x8x256_0_1_2 (broadcastInDim S34816x8x1 ![0, 1] bcast_S34816x8_S34816x8x1_0_1 (shapeCast _ cw shapeCasts_S34816x1x8_S34816x8))))
    (shapeCast _ wd shapeCasts_S1x8x256x1024_S8x256x1024)

/-- The reference on whole arrays: the four groups' contributions, one after the other. -/
def refOut (tg : IVec S68 32) (nu : IVec S1 32) (x : FVec Ideal S34816x1152 .f32) (wg wu : FVec Ideal S4x8x1024x256 .f32)
    (wd : FVec Ideal S4x8x256x1024 .f32) : FVec Ideal S34816x1024 .f32 :=
  addf (addf (addf (addf (broadcastInDim S34816x1024 ![] bcast_S_S34816x1024 (constant S_ .f32 0x00000000#32))
    (groupOut x (extractStridedSlice S34816x1x8 ![0, 0, 0] (comb tg nu x) slices_S34816x4x8_S34816x1x8_0_0_0)
      (extractStridedSlice S1x8x1024x256 ![0, 0, 0, 0] wg slices_S4x8x1024x256_S1x8x1024x256_0_0_0_0)
      (extractStridedSlice S1x8x1024x256 ![0, 0, 0, 0] wu slices_S4x8x1024x256_S1x8x1024x256_0_0_0_0)
      (extractStridedSlice S1x8x256x1024 ![0, 0, 0, 0] wd slices_S4x8x256x1024_S1x8x256x1024_0_0_0_0)))
    (groupOut x (extractStridedSlice S34816x1x8 ![0, 1, 0] (comb tg nu x) slices_S34816x4x8_S34816x1x8_0_1_0)
      (extractStridedSlice S1x8x1024x256 ![1, 0, 0, 0] wg slices_S4x8x1024x256_S1x8x1024x256_1_0_0_0)
      (extractStridedSlice S1x8x1024x256 ![1, 0, 0, 0] wu slices_S4x8x1024x256_S1x8x1024x256_1_0_0_0)
      (extractStridedSlice S1x8x256x1024 ![1, 0, 0, 0] wd slices_S4x8x256x1024_S1x8x256x1024_1_0_0_0)))
    (groupOut x (extractStridedSlice S34816x1x8 ![0, 2, 0] (comb tg nu x) slices_S34816x4x8_S34816x1x8_0_2_0)
      (extractStridedSlice S1x8x1024x256 ![2, 0, 0, 0] wg slices_S4x8x1024x256_S1x8x1024x256_2_0_0_0)
      (extractStridedSlice S1x8x1024x256 ![2, 0, 0, 0] wu slices_S4x8x1024x256_S1x8x1024x256_2_0_0_0)
      (extractStridedSlice S1x8x256x1024 ![2, 0, 0, 0] wd slices_S4x8x256x1024_S1x8x256x1024_2_0_0_0)))
    (groupOut x (extractStridedSlice S34816x1x8 ![0, 3, 0] (comb tg nu x) slices_S34816x4x8_S34816x1x8_0_3_0)
      (extractStridedSlice S1x8x1024x256 ![3, 0, 0, 0] wg slices_S4x8x1024x256_S1x8x1024x256_3_0_0_0)
      (extractStridedSlice S1x8x1024x256 ![3, 0, 0, 0] wu slices_S4x8x1024x256_S1x8x1024x256_3_0_0_0)
      (extractStridedSlice S1x8x256x1024 ![3, 0, 0, 0] wd slices_S4x8x256x1024_S1x8x256x1024_3_0_0_0))

/-- The reference's result is that chain. -/
theorem res_eq (m : (ℓ : Loc nD τ sig) → Buf (Elt Ideal) ℓ) (c : Dev nD) :
    Value.res_main_v85 m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl
/-- The reference's group of row `r`: its tile's, or no group at a tile past the used ones. -/
def rowGroup (tg : IVec S68 32) (nu : IVec S1 32) (r : Fin 34816) : BitVec 32 :=
  if IntOp.cmpi .slt (BitVec.ofNat 32 (r.val / 512)) (nu (ix1 0)) = 1#1 then tg (ix1 ⟨r.val / 512, by omega⟩) else 4294967295#32

theorem select_eq {α : Type} (a b : BitVec 32) (u v : α) : Scalar.select (IntOp.cmpi .eq a b) u v = if a = b then u else v := by
  by_cases h : a = b
  · simp [Scalar.select, IntOp.cmpi, h]
  · simp [Scalar.select, IntOp.cmpi, h, beq_eq_false_iff_ne.2 h]

theorem comb_entry (tg : IVec S68 32) (nu : IVec S1 32) (x : FVec Ideal S34816x1152 .f32) (r : Fin 34816) (g : Fin 4) (e : Fin 8) :
    comb tg nu x (ix3 r g e) = if rowGroup tg nu r = BitVec.ofNat 32 g.val then x (ix2 r ⟨1024 + (8 * g.val + e.val), by omega⟩) else 0 := by
  pointwise [comb]
  rw [select_eq]
  have hz : (id (constant (F := Ideal) S_ FTy.f32 0#32) ix0 : EReal) = 0 := by
    show constant (F := Ideal) S_ FTy.f32 0#32 ix0 = 0
    pointwise
  have hi : (⟨1024 + (g.val * 8 + e.val), by omega⟩ : Fin 1152) = ⟨1024 + (8 * g.val + e.val), by omega⟩ := Fin.ext (by simp only; omega)
  rw [hz, hi]
  rfl

theorem groupOut_entry (x : FVec Ideal S34816x1152 .f32) (cw : FVec Ideal S34816x1x8 .f32) (wg wu : FVec Ideal S1x8x1024x256 .f32)
    (wd : FVec Ideal S1x8x256x1024 .f32) (r : Fin 34816) (n : Fin 1024) :
    groupOut x cw wg wu wd (ix2 r n) = mixed (fun j => x (ix2 r ⟨j.val, by omega⟩)) (fun e => cw (ix3 r 0 e))
      (fun e j f => wg (ix4 0 e j f)) (fun e j f => wu (ix4 0 e j f)) (fun e f k => wd (ix4 0 e f k)) n := by
  pointwise [groupOut, act, projs]
  rfl

theorem mixed_zero (t : Fin 1024 → EReal) (wg wu : Fin 8 → Fin 1024 → Fin 256 → EReal) (wd : Fin 8 → Fin 256 → Fin 1024 → EReal)
    (n : Fin 1024) : mixed t (fun _ => 0) wg wu wd n = 0 := by
  simp [mixed, share]

/-- What group `k` adds at row `r`: the row's result when that is the row's group, nothing otherwise. -/
theorem term_value (tg : IVec S68 32) (nu : IVec S1 32) (x : FVec Ideal S34816x1152 .f32) (wg wu : FVec Ideal S4x8x1024x256 .f32)
    (wd : FVec Ideal S4x8x256x1024 .f32) (r : Fin 34816) (n : Fin 1024) (k : Fin 4) (cw : FVec Ideal S34816x1x8 .f32)
    (wgk wuk : FVec Ideal S1x8x1024x256 .f32) (wdk : FVec Ideal S1x8x256x1024 .f32)
    (hc : ∀ e, cw (ix3 r 0 e) = comb tg nu x (ix3 r k e)) (hg : ∀ e j f, wgk (ix4 0 e j f) = wg (ix4 k e j f))
    (hu : ∀ e j f, wuk (ix4 0 e j f) = wu (ix4 k e j f)) (hd : ∀ e f n, wdk (ix4 0 e f n) = wd (ix4 k e f n)) :
    groupOut x cw wgk wuk wdk (ix2 r n) = if rowGroup tg nu r = BitVec.ofNat 32 k.val then
      mixed (fun j => x (ix2 r ⟨j.val, by omega⟩)) (fun e => x (ix2 r ⟨1024 + (8 * k.val + e.val), by omega⟩))
        (fun e j f => wg (ix4 k e j f)) (fun e j f => wu (ix4 k e j f)) (fun e f n => wd (ix4 k e f n)) n else 0 := by
  rw [groupOut_entry]
  simp only [hc, hg, hu, hd, comb_entry]
  by_cases h : rowGroup tg nu r = BitVec.ofNat 32 k.val
  · simp only [if_pos h]
  · simp only [if_neg h]
    exact mixed_zero _ _ _ _ _

/-- Of the four groups' terms only the row's own remains. -/
theorem four_terms (M : Fin 4 → EReal) (g : Fin 4) :
    ((((if BitVec.ofNat 32 g.val = BitVec.ofNat 32 (0 : Fin 4).val then M 0 else 0)
      + if BitVec.ofNat 32 g.val = BitVec.ofNat 32 (1 : Fin 4).val then M 1 else 0)
      + if BitVec.ofNat 32 g.val = BitVec.ofNat 32 (2 : Fin 4).val then M 2 else 0)
      + if BitVec.ofNat 32 g.val = BitVec.ofNat 32 (3 : Fin 4).val then M 3 else 0) = M g := by
  fin_cases g <;> simp

/-- The reference at one entry. -/
theorem refOut_entry (tg : IVec S68 32) (nu : IVec S1 32) (x : FVec Ideal S34816x1152 .f32) (wg wu : FVec Ideal S4x8x1024x256 .f32)
    (wd : FVec Ideal S4x8x256x1024 .f32) (grp : Fin 68 → Fin 4) (hgrp : ∀ j, tg (ix1 j) = BitVec.ofNat 32 (grp j).val)
    (r : Fin 34816) (n : Fin 1024) : refOut tg nu x wg wu wd (ix2 r n) = result grp (nu (ix1 0)) x wg wu wd r n := by
  have h0 : (broadcastInDim S34816x1024 ![] bcast_S_S34816x1024 (constant (F := Ideal) S_ .f32 0x00000000#32)) (ix2 r n) = 0 := by pointwise
  show (((_ + _) + _) + _) + _ = _
  rw [h0, zero_add,
    term_value tg nu x wg wu wd r n 0 _ _ _ _ (fun e => by pointwise) (fun e j f => by pointwise) (fun e j f => by pointwise) (fun e j f => by pointwise),
    term_value tg nu x wg wu wd r n 1 _ _ _ _ (fun e => by pointwise) (fun e j f => by pointwise) (fun e j f => by pointwise) (fun e j f => by pointwise),
    term_value tg nu x wg wu wd r n 2 _ _ _ _ (fun e => by pointwise) (fun e j f => by pointwise) (fun e j f => by pointwise) (fun e j f => by pointwise),
    term_value tg nu x wg wu wd r n 3 _ _ _ _ (fun e => by pointwise) (fun e j f => by pointwise) (fun e j f => by pointwise) (fun e j f => by pointwise)]
  unfold result rowGroup
  by_cases h : IntOp.cmpi .slt (BitVec.ofNat 32 (r.val / 512)) (nu (ix1 0)) = 1#1
  · simp only [if_pos h, hgrp]
    exact four_terms (fun k => mixed (fun j => x (ix2 r ⟨j.val, by omega⟩)) (fun e => x (ix2 r ⟨1024 + (8 * k.val + e.val), by omega⟩))
      (fun e j f => wg (ix4 k e j f)) (fun e j f => wu (ix4 k e j f)) (fun e f n => wd (ix4 k e f n)) n) (grp _)
  · simp only [if_neg h]
    simp
end Reference

/-- The count of used tiles the body reads is the second argument's one word. -/
theorem used_word (m : (ℓ : Loc Cert.ExpertsIdeal.nD Cert.ExpertsIdeal.τ Cert.ExpertsIdeal.sig) → Buf (Elt Ideal) ℓ) (c : Dev Cert.ExpertsIdeal.nD) :
    Cert.ExpertsIdeal.Kit.usedWord (F := Ideal) (c := c) (Cert.ExpertsIdeal.Kit.tbl m 1)
      = (m ((c : Thread Cert.ExpertsIdeal.nD Cert.ExpertsIdeal.τ).loc Cert.ExpertsIdeal.main_arg1) : IVec Cert.ExpertsIdeal.S1 32) (ix1 0) := by
  obtain rfl : c = 0 := Subsingleton.elim _ _
  refine (congrFun (Cert.ExpertsIdeal.Kit.V_main_arg1 m 0) _).trans (congrArg _ (funext fun a => Fin.ext ?_))
  match a with
  | ⟨0, _⟩ => rfl

/-- Kernel and reference compute the same function when every tile's group is one of the four. -/
theorem algebraic : Cert.algebraic_ExpertsIdeal_ExpertsRefIdeal (hExpertsIdeal := Cert.ExpertsIdeal.Gen.facts)
    (hExpertsRefIdeal := Cert.ExpertsRefIdeal.Gen.facts) (hPre_groups_in_range := Cert.Pre_groups_in_range.Gen.facts) := by
  intro m ρ m' ρ' hpre hagree
  have hO := Cert.Proof.ExpertsOk.ok_of_pre m hpre
  choose grp hgrp using fun j => Cert.Proof.ExpertsOk.group m hpre 0 (ix1 j)
  have htbl : ∀ j, (Cert.ExpertsIdeal.Kit.tbl m 0 : IVec Cert.ExpertsIdeal.S68 32) (ix1 j) = BitVec.ofNat 32 (grp j).val := fun j =>
    (congrFun (Cert.ExpertsIdeal.Kit.V_main_arg0 m 0) (ix1 j)).trans (hgrp j)
  refine ⟨fun c => kernelResult m grp c, ?_, ?_⟩
  · refine (θ_run Cert.ExpertsIdeal.defs _ _).mono (fun _ h c => ⟨((h c).1 5).trans (final m hO c grp htbl), ?_⟩)
      (Cert.ExpertsIdeal.Kit.run_main m ρ hO)
    exact ⟨((h c).2 Cert.ExpertsIdeal.main_arg0 (by decide : Cert.ExpertsIdeal.main_arg0 ∈ Pipeline.restRefs Cert.ExpertsIdeal.sig Cert.ExpertsIdeal.spec0)).trans (Cert.ExpertsIdeal.Kit.V_main_arg0 m c),
      ((h c).2 Cert.ExpertsIdeal.main_arg1 (by decide : Cert.ExpertsIdeal.main_arg1 ∈ Pipeline.restRefs Cert.ExpertsIdeal.sig Cert.ExpertsIdeal.spec0)).trans (Cert.ExpertsIdeal.Kit.V_main_arg1 m c),
      ((h c).1 1).trans (((Cert.ExpertsIdeal.Kit.dats m hO 0 c).arrAt_in 1 rfl _).trans ((Cert.ExpertsIdeal.Kit.A_eq m hO c 1).trans (Cert.ExpertsIdeal.Kit.V_main_arg2 m c))),
      ((h c).2 Cert.ExpertsIdeal.main_arg3 (by decide : Cert.ExpertsIdeal.main_arg3 ∈ Pipeline.restRefs Cert.ExpertsIdeal.sig Cert.ExpertsIdeal.spec0)).trans (Cert.ExpertsIdeal.Kit.V_main_arg3 m c),
      ((h c).2 Cert.ExpertsIdeal.main_arg4 (by decide : Cert.ExpertsIdeal.main_arg4 ∈ Pipeline.restRefs Cert.ExpertsIdeal.sig Cert.ExpertsIdeal.spec0)).trans (Cert.ExpertsIdeal.Kit.V_main_arg4 m c),
      ((h c).2 Cert.ExpertsIdeal.main_arg5 (by decide : Cert.ExpertsIdeal.main_arg5 ∈ Pipeline.restRefs Cert.ExpertsIdeal.sig Cert.ExpertsIdeal.spec0)).trans (Cert.ExpertsIdeal.Kit.V_main_arg5 m c)⟩
  · refine (θ_run Cert.ExpertsRefIdeal.defs _ _).mono (fun _ h c => ⟨(h c).1.trans ?_, (h c).2⟩)
      (Cert.ExpertsRefIdeal.Value.run m' ρ')
    obtain ⟨e0, e1, e2, e3, e4, e5⟩ := hagree c
    beta_reduce
    rw [res_eq, e0, e1, e2, e3, e4, e5]
    obtain rfl : c = 0 := Subsingleton.elim _ _
    funext y
    obtain ⟨r, n, rfl⟩ : ∃ (r : Fin 34816) (n : Fin 1024), y = ix2 r n := ⟨y 0, y 1, (ix2_eta y).symm⟩
    refine (refOut_entry _ _ _ _ _ _ grp hgrp r n).trans ?_
    show result _ _ _ _ _ _ r n = result _ _ _ _ _ _ r n
    rw [used_word]

end Cert.Proof.ExpertsValue

end
-- ==== Proof.InprojIdealRuns.lean ====
/- The input projection: which case of the body runs at a point of the grid, which output it stores into, and where the
   blocks are written back. -/
module

public import proofs.«01_k».proof.Proof.Gen.InprojIdeal.Frame
public import proofs.«01_k».proof.Proof.Gen.InprojIdeal.Skeleton

@[expose] public section

set_option maxRecDepth 16384

noncomputable section

namespace Cert.InprojIdeal.Kit

open Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point is the first of its row tile: the tile is normalised. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 9 = 0 :=
  (fun t => by
    have ht : t.val < 288 := Nat.lt_of_lt_of_eq t.isLt N_0
    have e0 : (grid0.coords t 0).val = t.val / 9 % 32 := Pipeline.Grid.coords_val t 0 (by decide) rfl
    have e1 : (grid0.coords t 1).val = t.val / 1 % 9 := Pipeline.Grid.coords_val t 1 (by decide) rfl
    simp only [cond0_0, e0, e1]
    word_cmp
   : ∀ t : Fin grid0.N, cond0_0 (grid0.coords t) ↔ t.val % 9 = 0)

/-- The point is the column tile of the queries: every chunk is rotated into the first output. -/
abbrev cond0_1 (i : grid0.Coords) : Prop := k0_cond2 i = 1#1
theorem hcond0_1 : ∀ t : Fin cfg0.N, cond0_1 (grid0.coords t) ↔ t.val % 9 = 5 :=
  (fun t => by
    have ht : t.val < 288 := Nat.lt_of_lt_of_eq t.isLt N_0
    have e0 : (grid0.coords t 0).val = t.val / 9 % 32 := Pipeline.Grid.coords_val t 0 (by decide) rfl
    have e1 : (grid0.coords t 1).val = t.val / 1 % 9 := Pipeline.Grid.coords_val t 1 (by decide) rfl
    simp only [cond0_1, k0_cond2, e0, e1]
    word_cmp
   : ∀ t : Fin grid0.N, cond0_1 (grid0.coords t) ↔ t.val % 9 = 5)

/-- The point is the last column tile: it goes to the second output. -/
abbrev cond0_2 (i : grid0.Coords) : Prop := k0_cond3 i = 1#1
theorem hcond0_2 : ∀ t : Fin cfg0.N, cond0_2 (grid0.coords t) ↔ t.val % 9 = 8 :=
  (fun t => by
    have ht : t.val < 288 := Nat.lt_of_lt_of_eq t.isLt N_0
    have e0 : (grid0.coords t 0).val = t.val / 9 % 32 := Pipeline.Grid.coords_val t 0 (by decide) rfl
    have e1 : (grid0.coords t 1).val = t.val / 1 % 9 := Pipeline.Grid.coords_val t 1 (by decide) rfl
    simp only [cond0_2, k0_cond3, e0, e1]
    word_cmp
   : ∀ t : Fin grid0.N, cond0_2 (grid0.coords t) ↔ t.val % 9 = 8)

/-- The point is another column tile: it goes to the first output unrotated. -/
abbrev cond0_3 (i : grid0.Coords) : Prop := k0_cond4 i = 1#1
theorem hcond0_3 : ∀ t : Fin cfg0.N, cond0_3 (grid0.coords t) ↔ t.val % 9 ≠ 5 ∧ t.val % 9 ≠ 8 :=
  (fun t => by
    have ht : t.val < 288 := Nat.lt_of_lt_of_eq t.isLt N_0
    have e0 : (grid0.coords t 0).val = t.val / 9 % 32 := Pipeline.Grid.coords_val t 0 (by decide) rfl
    have e1 : (grid0.coords t 1).val = t.val / 1 % 9 := Pipeline.Grid.coords_val t 1 (by decide) rfl
    simp only [cond0_3, k0_cond4, e0, e1]
    word_cmp
   : ∀ t : Fin grid0.N, cond0_3 (grid0.coords t) ↔ t.val % 9 ≠ 5 ∧ t.val % 9 ≠ 8)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

/-- Case A: the first column tile. -/
abbrev conds0_A (i : grid0.Coords) : Prop := cond0_0 i ∧ ¬cond0_1 i ∧ ¬cond0_2 i ∧ cond0_3 i
instance conds0_A.dec (i : grid0.Coords) : Decidable (conds0_A i) :=
  @instDecidableAnd _ _ inferInstance (@instDecidableAnd _ _ inferInstance (@instDecidableAnd _ _ inferInstance inferInstance))
/-- Case B: a plain column tile that is not the first. -/
abbrev conds0_B (i : grid0.Coords) : Prop := ¬cond0_0 i ∧ ¬cond0_1 i ∧ ¬cond0_2 i ∧ cond0_3 i
instance conds0_B.dec (i : grid0.Coords) : Decidable (conds0_B i) :=
  @instDecidableAnd _ _ inferInstance (@instDecidableAnd _ _ inferInstance (@instDecidableAnd _ _ inferInstance inferInstance))
/-- Case C: the column tile of the queries. -/
abbrev conds0_C (i : grid0.Coords) : Prop := ¬cond0_0 i ∧ cond0_1 i ∧ ¬cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D: the last column tile. -/
abbrev conds0_D (i : grid0.Coords) : Prop := ¬cond0_0 i ∧ ¬cond0_1 i ∧ cond0_2 i ∧ ¬cond0_3 i
instance conds0_D.dec (i : grid0.Coords) : Decidable (conds0_D i) :=
  @instDecidableAnd _ _ inferInstance (@instDecidableAnd _ _ inferInstance (@instDecidableAnd _ _ inferInstance inferInstance))
theorem liveAt0_5_A : ∀ t : Fin cfg0.N, cond0_0 (grid0.coords t) → ¬cond0_1 (grid0.coords t) → ¬cond0_2 (grid0.coords t) → cond0_3 (grid0.coords t) → cfg0.idle 5 (grid0.coords t) = false :=
  fun t h0 h1 h2 h3 => (by decide +kernel : ∀ t : Fin cfg0.N, conds0_A (grid0.coords t) → cfg0.idle 5 (grid0.coords t) = false) t ⟨h0, h1, h2, h3⟩
theorem liveAt0_5_B : ∀ t : Fin cfg0.N, ¬cond0_0 (grid0.coords t) → ¬cond0_1 (grid0.coords t) → ¬cond0_2 (grid0.coords t) → cond0_3 (grid0.coords t) → cfg0.idle 5 (grid0.coords t) = false :=
  fun t h0 h1 h2 h3 => (by decide +kernel : ∀ t : Fin cfg0.N, conds0_B (grid0.coords t) → cfg0.idle 5 (grid0.coords t) = false) t ⟨h0, h1, h2, h3⟩
theorem liveAt0_5_C : ∀ t : Fin cfg0.N, ¬cond0_0 (grid0.coords t) → cond0_1 (grid0.coords t) → ¬cond0_2 (grid0.coords t) → ¬cond0_3 (grid0.coords t) → cfg0.idle 5 (grid0.coords t) = false :=
  fun t h0 h1 h2 h3 => (by decide +kernel : ∀ t : Fin cfg0.N, conds0_C (grid0.coords t) → cfg0.idle 5 (grid0.coords t) = false) t ⟨h0, h1, h2, h3⟩
/-- At the last column tile the body leaves the first output alone, -/
theorem idleAt0_5_D : ∀ t : Fin cfg0.N, ¬cond0_0 (grid0.coords t) → ¬cond0_1 (grid0.coords t) → cond0_2 (grid0.coords t) → ¬cond0_3 (grid0.coords t) → cfg0.idle 5 (grid0.coords t) = true :=
  fun t h0 h1 h2 h3 => (by decide +kernel : ∀ t : Fin cfg0.N, conds0_D (grid0.coords t) → cfg0.idle 5 (grid0.coords t) = true) t ⟨h0, h1, h2, h3⟩
/-- and its block, stored at the point before, is written back there. -/
theorem flushAt0_5_D : ∀ t : Fin cfg0.N, ¬cond0_0 (grid0.coords t) → ¬cond0_1 (grid0.coords t) → cond0_2 (grid0.coords t) → ¬cond0_3 (grid0.coords t) → (cfg0.win 5).flush t = true :=
  fun t h0 h1 h2 h3 => (by decide +kernel : ∀ t : Fin cfg0.N, conds0_D (grid0.coords t) → (cfg0.win 5).flush t = true) t ⟨h0, h1, h2, h3⟩
/-- It is not written back at the point before. -/
theorem noFlush0_5_7 : ∀ t : Fin cfg0.N, t.val % 9 = 7 → (cfg0.win 5).flush t = false := by decide +kernel
theorem liveAt0_5_7 : ∀ t : Fin cfg0.N, t.val % 9 = 7 → cfg0.idle 5 (grid0.coords t) = false := by decide +kernel
theorem idleAt0_6_A : ∀ t : Fin cfg0.N, cond0_0 (grid0.coords t) → ¬cond0_1 (grid0.coords t) → ¬cond0_2 (grid0.coords t) → cond0_3 (grid0.coords t) → cfg0.idle 6 (grid0.coords t) = true :=
  fun t h0 h1 h2 h3 => (by decide +kernel : ∀ t : Fin cfg0.N, conds0_A (grid0.coords t) → cfg0.idle 6 (grid0.coords t) = true) t ⟨h0, h1, h2, h3⟩
theorem noFlush0_6_A : ∀ t : Fin cfg0.N, cond0_0 (grid0.coords t) → ¬cond0_1 (grid0.coords t) → ¬cond0_2 (grid0.coords t) → cond0_3 (grid0.coords t) → (cfg0.win 6).flush t = false :=
  fun t h0 h1 h2 h3 => (by decide +kernel : ∀ t : Fin cfg0.N, conds0_A (grid0.coords t) → (cfg0.win 6).flush t = false) t ⟨h0, h1, h2, h3⟩
theorem idleAt0_6_B : ∀ t : Fin cfg0.N, ¬cond0_0 (grid0.coords t) → ¬cond0_1 (grid0.coords t) → ¬cond0_2 (grid0.coords t) → cond0_3 (grid0.coords t) → cfg0.idle 6 (grid0.coords t) = true :=
  fun t h0 h1 h2 h3 => (by decide +kernel : ∀ t : Fin cfg0.N, conds0_B (grid0.coords t) → cfg0.idle 6 (grid0.coords t) = true) t ⟨h0, h1, h2, h3⟩
theorem noFlush0_6_B : ∀ t : Fin cfg0.N, ¬cond0_0 (grid0.coords t) → ¬cond0_1 (grid0.coords t) → ¬cond0_2 (grid0.coords t) → cond0_3 (grid0.coords t) → (cfg0.win 6).flush t = false :=
  fun t h0 h1 h2 h3 => (by decide +kernel : ∀ t : Fin cfg0.N, conds0_B (grid0.coords t) → (cfg0.win 6).flush t = false) t ⟨h0, h1, h2, h3⟩
theorem idleAt0_6_C : ∀ t : Fin cfg0.N, ¬cond0_0 (grid0.coords t) → cond0_1 (grid0.coords t) → ¬cond0_2 (grid0.coords t) → ¬cond0_3 (grid0.coords t) → cfg0.idle 6 (grid0.coords t) = true :=
  fun t h0 h1 h2 h3 => (by decide +kernel : ∀ t : Fin cfg0.N, conds0_C (grid0.coords t) → cfg0.idle 6 (grid0.coords t) = true) t ⟨h0, h1, h2, h3⟩
theorem noFlush0_6_C : ∀ t : Fin cfg0.N, ¬cond0_0 (grid0.coords t) → cond0_1 (grid0.coords t) → ¬cond0_2 (grid0.coords t) → ¬cond0_3 (grid0.coords t) → (cfg0.win 6).flush t = false :=
  fun t h0 h1 h2 h3 => (by decide +kernel : ∀ t : Fin cfg0.N, conds0_C (grid0.coords t) → (cfg0.win 6).flush t = false) t ⟨h0, h1, h2, h3⟩
theorem liveAt0_6_D : ∀ t : Fin cfg0.N, ¬cond0_0 (grid0.coords t) → ¬cond0_1 (grid0.coords t) → cond0_2 (grid0.coords t) → ¬cond0_3 (grid0.coords t) → cfg0.idle 6 (grid0.coords t) = false :=
  fun t h0 h1 h2 h3 => (by decide +kernel : ∀ t : Fin cfg0.N, conds0_D (grid0.coords t) → cfg0.idle 6 (grid0.coords t) = false) t ⟨h0, h1, h2, h3⟩

abbrev VO0_5 : View sig .tc .vmem S1024x1024 .bf16 := (Memref.whole cc0_stg5_0 : Memref sig .tc .vmem S1024x1024 .bf16).view
abbrev VO0_6 : View sig .tc .vmem S1024x1024 .f32 := (Memref.whole cc0_stg6_0 : Memref sig .tc .vmem S1024x1024 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x1024 .f32 := win0_6.stage (cfg0.slots t 6)
abbrev hs0_6 (t : Fin cfg0.N) : (ms0_6 t).IsWhole := hstage0_6 ((cfg0.slots t 6).cast nbuf0_6)
/-- The scratch that holds the normalised row tile from one column tile to the next. -/
abbrev scM0_0 : Memref sig .tc .vmem S1024x1024 .bf16 := Memref.whole cc0_scratch0
abbrev VS0_0 : View sig .tc .vmem S1024x1024 .bf16 := scM0_0.view

/-- Before the first point the scratch holds anything. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.InprojIdeal.Kit

end
-- ==== Proof.InprojIdealRunA.lean ====
/- The input projection: the body at the first column tile of a row tile. -/
module

public import proofs.«01_k».proof.Proof.InprojIdealRuns

@[expose] public section

set_option maxRecDepth 16384

noncomputable section

namespace Cert.InprojIdeal.Kit

open Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first column tile of a row tile, run: the pieces it stores into each buffer, with its triple. -/
noncomputable def kernelRun0_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i) (hc2 : ¬cond0_2 i) (hc3 : cond0_3 i)
    (x0 : Vec F S1024x1024 .f32) (x1 : Vec F S1x1024 .f32) (x2 : Vec F S1024x1024 .bf16) (x3 : Vec F S1024x128 .f32) (x4 : Vec F S1024x128 .f32) :
    Σ' (L5 : List (View.Piece (Elt F) S1024x1024 .bf16)), Σ' (L6 : List (View.Piece (Elt F) S1024x1024 .f32)), { LS0 : List (View.Piece (Elt F) S1024x1024 .bf16) //
      ∀ (xi6 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0)) -∗ K ⟨⟩))
          ⊢ wp frame (wpE (defs₀ (F := F)) Variants.none c none) E (cc0_in_projection i arg2 harg2 arg3 harg3 arg4 harg4 arg5 harg5 arg6 harg6 arg7 harg7 arg8 harg8 arg9 harg9) K } := by
  refine ⟨?_, [], ?_, fun xi6 E K => ?run⟩
  case run =>
    simp only [cc0_in_projection_eq_skeleton]; unfold cc0_in_projection_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; iexact HS0

end Cert.InprojIdeal.Kit

end
-- ==== Proof.InprojIdealRunB.lean ====
/- The input projection: the body at a plain column tile. -/
module

public import proofs.«01_k».proof.Proof.InprojIdealRunA

@[expose] public section

set_option maxRecDepth 16384

noncomputable section

namespace Cert.InprojIdeal.Kit

open Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a plain column tile, run: the pieces it stores into each buffer, with its triple. -/
noncomputable def kernelRun0_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : ¬cond0_2 i) (hc3 : cond0_3 i)
    (x0 : Vec F S1024x1024 .f32) (x1 : Vec F S1x1024 .f32) (x2 : Vec F S1024x1024 .bf16) (x3 : Vec F S1024x128 .f32) (x4 : Vec F S1024x128 .f32) (xs0 : Vec F S1024x1024 .bf16) :
    Σ' (L5 : List (View.Piece (Elt F) S1024x1024 .bf16)), Σ' (L6 : List (View.Piece (Elt F) S1024x1024 .f32)), { LS0 : List (View.Piece (Elt F) S1024x1024 .bf16) //
      ∀ (xi6 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xs0) -∗ K ⟨⟩))
          ⊢ wp frame (wpE (defs₀ (F := F)) Variants.none c none) E (cc0_in_projection i arg2 harg2 arg3 harg3 arg4 harg4 arg5 harg5 arg6 harg6 arg7 harg7 arg8 harg8 arg9 harg9) K } := by
  refine ⟨?_, [], [], fun xi6 E K => ?run⟩
  case run =>
    simp only [cc0_in_projection_eq_skeleton]; unfold cc0_in_projection_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; isplitr; · ipureintro; exact harg9.read_unread _
    iexact HS0

end Cert.InprojIdeal.Kit

end
-- ==== Proof.InprojIdealRunC.lean ====
/- The input projection: the body at the column tile of the queries. -/
module

public import proofs.«01_k».proof.Proof.InprojIdealRunB

@[expose] public section

set_option maxRecDepth 16384

noncomputable section

namespace Cert.InprojIdeal.Kit

open Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the column tile of the queries, run: the pieces it stores into each buffer, with its triple. -/
noncomputable def kernelRun0_C (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i) (hc2 : ¬cond0_2 i) (hc3 : ¬cond0_3 i)
    (x0 : Vec F S1024x1024 .f32) (x1 : Vec F S1x1024 .f32) (x2 : Vec F S1024x1024 .bf16) (x3 : Vec F S1024x128 .f32) (x4 : Vec F S1024x128 .f32) (xs0 : Vec F S1024x1024 .bf16) :
    Σ' (L5 : List (View.Piece (Elt F) S1024x1024 .bf16)), Σ' (L6 : List (View.Piece (Elt F) S1024x1024 .f32)), { LS0 : List (View.Piece (Elt F) S1024x1024 .bf16) //
      ∀ (xi6 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ owns (c : Thread nD τ) arg9 fullShare xs0) -∗ K ⟨⟩))
          ⊢ wp frame (wpE (defs₀ (F := F)) Variants.none c none) E (cc0_in_projection i arg2 harg2 arg3 harg3 arg4 harg4 arg5 harg5 arg6 harg6 arg7 harg7 arg8 harg8 arg9 harg9) K } := by
  refine ⟨?_, [], [], fun xi6 E K => ?run⟩
  case run =>
    simp only [cc0_in_projection_eq_skeleton]; unfold cc0_in_projection_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; isplitr; · ipureintro; exact harg9.read_unread _
    iexact HS0

end Cert.InprojIdeal.Kit

end
-- ==== Proof.InprojIdealRunD.lean ====
/- The input projection: the body at the last column tile. -/
module

public import proofs.«01_k».proof.Proof.InprojIdealRunC

@[expose] public section

set_option maxRecDepth 16384

noncomputable section

namespace Cert.InprojIdeal.Kit

open Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the last column tile, run: the pieces it stores into each buffer, with its triple. -/
noncomputable def kernelRun0_D (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : cond0_2 i) (hc3 : ¬cond0_3 i)
    (x0 : Vec F S1024x1024 .f32) (x1 : Vec F S1x1024 .f32) (x2 : Vec F S1024x1024 .bf16) (x3 : Vec F S1024x128 .f32) (x4 : Vec F S1024x128 .f32) (xs0 : Vec F S1024x1024 .bf16) :
    Σ' (L5 : List (View.Piece (Elt F) S1024x1024 .bf16)), Σ' (L6 : List (View.Piece (Elt F) S1024x1024 .f32)), { LS0 : List (View.Piece (Elt F) S1024x1024 .bf16) //
      ∀ (xi5 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ owns (c : Thread nD τ) arg9 fullShare xs0) -∗ K ⟨⟩))
          ⊢ wp frame (wpE (defs₀ (F := F)) Variants.none c none) E (cc0_in_projection i arg2 harg2 arg3 harg3 arg4 harg4 arg5 harg5 arg6 harg6 arg7 harg7 arg8 harg8 arg9 harg9) K } := by
  refine ⟨[], ?_, [], fun xi5 E K => ?run⟩
  case run =>
    simp only [cc0_in_projection_eq_skeleton]; unfold cc0_in_projection_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; isplitr; · ipureintro; exact harg9.read_unread _
    iexact HS0

end Cert.InprojIdeal.Kit

end
-- ==== Proof.InprojIdealFrame.lean ====
/- The input projection: what the outputs' buffers and the scratch hold after each point, the run of the whole program, and
   its frame. The last column tile stores nothing into the first output, whose block, stored at the point before, is written
   back there: its buffer is carried. -/
module

public import proofs.«01_k».proof.Proof.InprojIdealRunD
public import Idealize.ShloMosaic.Lib.Claim
public import Idealize.ShloMosaic.Lib.Pipeline.TableIdle

@[expose] public section

set_option maxRecDepth 16384

noncomputable section

namespace Cert.InprojIdeal.Kit

open Cert.InprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover0_A_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i) (hc2 : ¬cond0_2 i) (hc3 : cond0_3 i)
    (x0 : Vec F S1024x1024 .f32) (x1 : Vec F S1x1024 .f32) (x2 : Vec F S1024x1024 .bf16) (x3 : Vec F S1024x128 .f32) (x4 : Vec F S1024x128 .f32) (y : S1024x1024.Idx) :
    ∃ pc ∈ (kernelRun0_A c i arg2 harg2 arg3 harg3 arg4 harg4 arg5 harg5 arg6 harg6 arg7 harg7 arg8 harg8 arg9 harg9 hc0 hc1 hc2 hc3 x0 x1 x2 x3 x4).1, y ∈ pc.1.set :=
  View.cover_of_tiledL (kernelRun0_A c i arg2 harg2 arg3 harg3 arg4 harg4 arg5 harg5 arg6 harg6 arg7 harg7 arg8 harg8 arg9 harg9 hc0 hc1 hc2 hc3 x0 x1 x2 x3 x4).1 S1024x1024.size (by sl_kernel_rfl) y

def out0_A_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i) (hc2 : ¬cond0_2 i) (hc3 : cond0_3 i)
    (x0 : Vec F S1024x1024 .f32) (x1 : Vec F S1x1024 .f32) (x2 : Vec F S1024x1024 .bf16) (x3 : Vec F S1024x128 .f32) (x4 : Vec F S1024x128 .f32) : Vec F S1024x1024 .bf16 :=
  VO0_5.read (Elt F) (VO0_5.writes (Elt F) VO0_5.junk (kernelRun0_A c i arg2 harg2 arg3 harg3 arg4 harg4 arg5 harg5 arg6 harg6 arg7 harg7 arg8 harg8 arg9 harg9 hc0 hc1 hc2 hc3 x0 x1 x2 x3 x4).1)

def out0_A_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i) (hc2 : ¬cond0_2 i) (hc3 : cond0_3 i)
    (x0 : Vec F S1024x1024 .f32) (x1 : Vec F S1x1024 .f32) (x2 : Vec F S1024x1024 .bf16) (x3 : Vec F S1024x128 .f32) (x4 : Vec F S1024x128 .f32) : Vec F S1024x1024 .f32 :=
  VO0_6.read (Elt F) (VO0_6.writes (Elt F) VO0_6.junk (kernelRun0_A c i arg2 harg2 arg3 harg3 arg4 harg4 arg5 harg5 arg6 harg6 arg7 harg7 arg8 harg8 arg9 harg9 hc0 hc1 hc2 hc3 x0 x1 x2 x3 x4).2.1)

theorem scover0_A_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i) (hc2 : ¬cond0_2 i) (hc3 : cond0_3 i)
    (x0 : Vec F S1024x1024 .f32) (x1 : Vec F S1x1024 .f32) (x2 : Vec F S1024x1024 .bf16) (x3 : Vec F S1024x128 .f32) (x4 : Vec F S1024x128 .f32) (y : S1024x1024.Idx) :
    ∃ pc ∈ (kernelRun0_A c i arg2 harg2 arg3 harg3 arg4 harg4 arg5 harg5 arg6 harg6 arg7 harg7 arg8 harg8 arg9 harg9 hc0 hc1 hc2 hc3 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 hc1 hc2 hc3 x0 x1 x2 x3 x4).2.2.1 S1024x1024.size (by sl_kernel_rfl) y

def sout0_A_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i) (hc2 : ¬cond0_2 i) (hc3 : cond0_3 i)
    (x0 : Vec F S1024x1024 .f32) (x1 : Vec F S1x1024 .f32) (x2 : Vec F S1024x1024 .bf16) (x3 : Vec F S1024x128 .f32) (x4 : Vec F S1024x128 .f32) : Vec F S1024x1024 .bf16 :=
  VS0_0.read (Elt F) (VS0_0.writes (Elt F) VS0_0.junk (kernelRun0_A c i arg2 harg2 arg3 harg3 arg4 harg4 arg5 harg5 arg6 harg6 arg7 harg7 arg8 harg8 arg9 harg9 hc0 hc1 hc2 hc3 x0 x1 x2 x3 x4).2.2.1)

theorem cover0_B_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : ¬cond0_2 i) (hc3 : cond0_3 i)
    (x0 : Vec F S1024x1024 .f32) (x1 : Vec F S1x1024 .f32) (x2 : Vec F S1024x1024 .bf16) (x3 : Vec F S1024x128 .f32) (x4 : Vec F S1024x128 .f32) (xs0 : Vec F S1024x1024 .bf16) (y : S1024x1024.Idx) :
    ∃ pc ∈ (kernelRun0_B c i arg2 harg2 arg3 harg3 arg4 harg4 arg5 harg5 arg6 harg6 arg7 harg7 arg8 harg8 arg9 harg9 hc0 hc1 hc2 hc3 x0 x1 x2 x3 x4 xs0).1, y ∈ pc.1.set :=
  View.cover_of_tiledL (kernelRun0_B c i arg2 harg2 arg3 harg3 arg4 harg4 arg5 harg5 arg6 harg6 arg7 harg7 arg8 harg8 arg9 harg9 hc0 hc1 hc2 hc3 x0 x1 x2 x3 x4 xs0).1 S1024x1024.size (by sl_kernel_rfl) y

def out0_B_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : ¬cond0_2 i) (hc3 : cond0_3 i)
    (x0 : Vec F S1024x1024 .f32) (x1 : Vec F S1x1024 .f32) (x2 : Vec F S1024x1024 .bf16) (x3 : Vec F S1024x128 .f32) (x4 : Vec F S1024x128 .f32) (xs0 : Vec F S1024x1024 .bf16) : Vec F S1024x1024 .bf16 :=
  VO0_5.read (Elt F) (VO0_5.writes (Elt F) VO0_5.junk (kernelRun0_B c i arg2 harg2 arg3 harg3 arg4 harg4 arg5 harg5 arg6 harg6 arg7 harg7 arg8 harg8 arg9 harg9 hc0 hc1 hc2 hc3 x0 x1 x2 x3 x4 xs0).1)

def out0_B_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : ¬cond0_2 i) (hc3 : cond0_3 i)
    (x0 : Vec F S1024x1024 .f32) (x1 : Vec F S1x1024 .f32) (x2 : Vec F S1024x1024 .bf16) (x3 : Vec F S1024x128 .f32) (x4 : Vec F S1024x128 .f32) (xs0 : Vec F S1024x1024 .bf16) : Vec F S1024x1024 .f32 :=
  VO0_6.read (Elt F) (VO0_6.writes (Elt F) VO0_6.junk (kernelRun0_B c i arg2 harg2 arg3 harg3 arg4 harg4 arg5 harg5 arg6 harg6 arg7 harg7 arg8 harg8 arg9 harg9 hc0 hc1 hc2 hc3 x0 x1 x2 x3 x4 xs0).2.1)

def sout0_B_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : ¬cond0_2 i) (hc3 : cond0_3 i)
    (x0 : Vec F S1024x1024 .f32) (x1 : Vec F S1x1024 .f32) (x2 : Vec F S1024x1024 .bf16) (x3 : Vec F S1024x128 .f32) (x4 : Vec F S1024x128 .f32) (xs0 : Vec F S1024x1024 .bf16) : Vec F S1024x1024 .bf16 := xs0

theorem cover0_C_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i) (hc2 : ¬cond0_2 i) (hc3 : ¬cond0_3 i)
    (x0 : Vec F S1024x1024 .f32) (x1 : Vec F S1x1024 .f32) (x2 : Vec F S1024x1024 .bf16) (x3 : Vec F S1024x128 .f32) (x4 : Vec F S1024x128 .f32) (xs0 : Vec F S1024x1024 .bf16) (y : S1024x1024.Idx) :
    ∃ pc ∈ (kernelRun0_C c i arg2 harg2 arg3 harg3 arg4 harg4 arg5 harg5 arg6 harg6 arg7 harg7 arg8 harg8 arg9 harg9 hc0 hc1 hc2 hc3 x0 x1 x2 x3 x4 xs0).1, y ∈ pc.1.set :=
  View.cover_of_tiledL (kernelRun0_C c i arg2 harg2 arg3 harg3 arg4 harg4 arg5 harg5 arg6 harg6 arg7 harg7 arg8 harg8 arg9 harg9 hc0 hc1 hc2 hc3 x0 x1 x2 x3 x4 xs0).1 S1024x128.size (by sl_kernel_rfl) y

def out0_C_5 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i) (hc2 : ¬cond0_2 i) (hc3 : ¬cond0_3 i)
    (x0 : Vec F S1024x1024 .f32) (x1 : Vec F S1x1024 .f32) (x2 : Vec F S1024x1024 .bf16) (x3 : Vec F S1024x128 .f32) (x4 : Vec F S1024x128 .f32) (xs0 : Vec F S1024x1024 .bf16) : Vec F S1024x1024 .bf16 :=
  VO0_5.read (Elt F) (VO0_5.writes (Elt F) VO0_5.junk (kernelRun0_C c i arg2 harg2 arg3 harg3 arg4 harg4 arg5 harg5 arg6 harg6 arg7 harg7 arg8 harg8 arg9 harg9 hc0 hc1 hc2 hc3 x0 x1 x2 x3 x4 xs0).1)

def out0_C_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i) (hc2 : ¬cond0_2 i) (hc3 : ¬cond0_3 i)
    (x0 : Vec F S1024x1024 .f32) (x1 : Vec F S1x1024 .f32) (x2 : Vec F S1024x1024 .bf16) (x3 : Vec F S1024x128 .f32) (x4 : Vec F S1024x128 .f32) (xs0 : Vec F S1024x1024 .bf16) : Vec F S1024x1024 .f32 :=
  VO0_6.read (Elt F) (VO0_6.writes (Elt F) VO0_6.junk (kernelRun0_C c i arg2 harg2 arg3 harg3 arg4 harg4 arg5 harg5 arg6 harg6 arg7 harg7 arg8 harg8 arg9 harg9 hc0 hc1 hc2 hc3 x0 x1 x2 x3 x4 xs0).2.1)

def sout0_C_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i) (hc2 : ¬cond0_2 i) (hc3 : ¬cond0_3 i)
    (x0 : Vec F S1024x1024 .f32) (x1 : Vec F S1x1024 .f32) (x2 : Vec F S1024x1024 .bf16) (x3 : Vec F S1024x128 .f32) (x4 : Vec F S1024x128 .f32) (xs0 : Vec F S1024x1024 .bf16) : Vec F S1024x1024 .bf16 := xs0

theorem cover0_D_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : cond0_2 i) (hc3 : ¬cond0_3 i)
    (x0 : Vec F S1024x1024 .f32) (x1 : Vec F S1x1024 .f32) (x2 : Vec F S1024x1024 .bf16) (x3 : Vec F S1024x128 .f32) (x4 : Vec F S1024x128 .f32) (xs0 : Vec F S1024x1024 .bf16) (y : S1024x1024.Idx) :
    ∃ pc ∈ (kernelRun0_D c i arg2 harg2 arg3 harg3 arg4 harg4 arg5 harg5 arg6 harg6 arg7 harg7 arg8 harg8 arg9 harg9 hc0 hc1 hc2 hc3 x0 x1 x2 x3 x4 xs0).2.1, y ∈ pc.1.set :=
  View.cover_of_tiledL (kernelRun0_D c i arg2 harg2 arg3 harg3 arg4 harg4 arg5 harg5 arg6 harg6 arg7 harg7 arg8 harg8 arg9 harg9 hc0 hc1 hc2 hc3 x0 x1 x2 x3 x4 xs0).2.1 S1024x128.size (by sl_kernel_rfl) y

def out0_D_6 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : cond0_2 i) (hc3 : ¬cond0_3 i)
    (x0 : Vec F S1024x1024 .f32) (x1 : Vec F S1x1024 .f32) (x2 : Vec F S1024x1024 .bf16) (x3 : Vec F S1024x128 .f32) (x4 : Vec F S1024x128 .f32) (xs0 : Vec F S1024x1024 .bf16) : Vec F S1024x1024 .f32 :=
  VO0_6.read (Elt F) (VO0_6.writes (Elt F) VO0_6.junk (kernelRun0_D c i arg2 harg2 arg3 harg3 arg4 harg4 arg5 harg5 arg6 harg6 arg7 harg7 arg8 harg8 arg9 harg9 hc0 hc1 hc2 hc3 x0 x1 x2 x3 x4 xs0).2.1)

def sout0_D_0 (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : cond0_2 i) (hc3 : ¬cond0_3 i)
    (x0 : Vec F S1024x1024 .f32) (x1 : Vec F S1x1024 .f32) (x2 : Vec F S1024x1024 .bf16) (x3 : Vec F S1024x128 .f32) (x4 : Vec F S1024x128 .f32) (xs0 : Vec F S1024x1024 .bf16) : Vec F S1024x1024 .bf16 := xs0

def outsAt0 (c : Dev nD) : (n : ℕ) → n < cfg0.N → Vec F S1024x1024 .bf16 × Vec F S1024x1024 .f32 × Vec F S1024x1024 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) ((hcond0_3 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) ((hcond0_3 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) ((hcond0_3 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 9 = 0 then
      if h1 : (n + 1) % 9 = 5 then
        False.elim (by have hN : n + 1 < 288 := lt_of_lt_of_eq hn (show cfg0.N = 288 from N_0); omega)
      else
        if h2 : (n + 1) % 9 = 8 then
          False.elim (by have hN : n + 1 < 288 := lt_of_lt_of_eq hn (show cfg0.N = 288 from N_0); omega)
        else
          if h3 : ((n + 1) % 9 ≠ 5 ∧ (n + 1) % 9 ≠ 8) then
            (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩))
          else
            False.elim (by have hN : n + 1 < 288 := lt_of_lt_of_eq hn (show cfg0.N = 288 from N_0); omega)
    else
      if h1 : (n + 1) % 9 = 5 then
        if h2 : (n + 1) % 9 = 8 then
          False.elim (by have hN : n + 1 < 288 := lt_of_lt_of_eq hn (show cfg0.N = 288 from N_0); omega)
        else
          if h3 : ((n + 1) % 9 ≠ 5 ∧ (n + 1) % 9 ≠ 8) then
            False.elim (by have hN : n + 1 < 288 := lt_of_lt_of_eq hn (show cfg0.N = 288 from N_0); omega)
          else
            (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)
      else
        if h2 : (n + 1) % 9 = 8 then
          if h3 : ((n + 1) % 9 ≠ 5 ∧ (n + 1) % 9 ≠ 8) then
            False.elim (by have hN : n + 1 < 288 := lt_of_lt_of_eq hn (show cfg0.N = 288 from N_0); omega)
          else
            ((outsAt0 c n (Nat.lt_of_succ_lt hn)).1, out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)
        else
          if h3 : ((n + 1) % 9 ≠ 5 ∧ (n + 1) % 9 ≠ 8) then
            (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2)
          else
            False.elim (by have hN : n + 1 < 288 := lt_of_lt_of_eq hn (show cfg0.N = 288 from N_0); omega)

theorem outsAt0_A (c : Dev nD) (t : Fin cfg0.N) (h0 : t.val % 9 = 0) (h1 : ¬t.val % 9 = 5) (h2 : ¬t.val % 9 = 8) (h3 : t.val % 9 ≠ 5 ∧ t.val % 9 ≠ 8) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans ((dif_neg h2).trans ((dif_pos h3).trans rfl)))

theorem outsAt0_B (c : Dev nD) (t : Fin cfg0.N) (h0 : ¬t.val % 9 = 0) (h1 : ¬t.val % 9 = 5) (h2 : ¬t.val % 9 = 8) (h3 : t.val % 9 ≠ 5 ∧ t.val % 9 ≠ 8) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (outsAt0 m c (t.val - 1) (Nat.lt_of_le_of_lt (Nat.sub_le _ _) t.isLt)).2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

theorem outsAt0_C (c : Dev nD) (t : Fin cfg0.N) (h0 : ¬t.val % 9 = 0) (h1 : t.val % 9 = 5) (h2 : ¬t.val % 9 = 8) (h3 : ¬(t.val % 9 ≠ 5 ∧ t.val % 9 ≠ 8)) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

theorem outsAt0_D (c : Dev nD) (t : Fin cfg0.N) (h0 : ¬t.val % 9 = 0) (h1 : ¬t.val % 9 = 5) (h2 : t.val % 9 = 8) (h3 : ¬(t.val % 9 ≠ 5 ∧ t.val % 9 ≠ 8)) :
    outsAt0 m c t.val t.isLt = ((outsAt0 m c (t.val - 1) (Nat.lt_of_le_of_lt (Nat.sub_le _ _) t.isLt)).1, out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem before0_5_D (c : Dev nD) (t : Fin cfg0.N) (h2 : t.val % 9 = 8) (d) :
    (dats m 0 c).before 5 t d = (outsAt0 m c (t.val - 1) (Nat.lt_of_le_of_lt (Nat.sub_le _ _) t.isLt)).1 := by
  rw [(dats m 0 c).before_of_pos 5 t (by omega) ((cfg0.win 5).fetch_out rfl t) d,
    if_neg (by rw [noFlush0_5_7 _ (by show (t.val - 1) % 9 = 7; omega)]; exact Bool.false_ne_true)]
  unfold Dat.left
  rw [liveAt0_5_7 _ (by show (t.val - 1) % 9 = 7; omega)]
  show (dats m 0 c).kept 5 _ d = _
  unfold Dat.kept
  rw [Pipeline.fill_of_clip_none 5 _ (fun _ => rfl) d ((dats m 0 c).after 5 _), Window.fill_cut, after0_5]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 288 := lt_of_lt_of_eq t.isLt (show cfg0.N = 288 from N_0)
  by_cases h0 : t.val % 9 = 0
  · by_cases h1 : t.val % 9 = 5
    · exfalso; omega
    · by_cases h2 : t.val % 9 = 8
      · exfalso; omega
      · by_cases h3 : t.val % 9 ≠ 5 ∧ t.val % 9 ≠ 8
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5_A t ((hcond0_0 t).mpr h0) (fun h => h1 ((hcond0_1 t).mp h)) (fun h => h2 ((hcond0_2 t).mp h)) ((hcond0_3 t).mpr h3)], after0_5]
          rw [Dat.leavesExact_idle (dats m 0 c) 6 t (idleAt0_6_A t ((hcond0_0 t).mpr h0) (fun h => h1 ((hcond0_1 t).mp h)) (fun h => h2 ((hcond0_2 t).mp h)) ((hcond0_3 t).mpr h3)) (noFlush0_6_A t ((hcond0_0 t).mpr h0) (fun h => h1 ((hcond0_1 t).mp h)) (fun h => h2 ((hcond0_2 t).mp h)) ((hcond0_3 t).mpr h3))]
          by_cases hz : t.val = 0
          · rw [PhiS_castSucc m c t, PhiS_zero m c _ _ hz, PhiA0_eq]
            rw [outsAt0_A m c t h0 h1 h2 h3]
            unfold out0_A_5 sout0_A_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
            iapply ((kernelRun0_A c (grid0.coords t) _ _ _ _ _ _ _ _ _ _ _ _ _ _ _ _ ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t)).2.2.2 _ Set.univ _)
            isplitl [H0]; · iexact H0
            isplitl [H1]; · iexact H1
            isplitl [H2]; · iexact H2
            isplitl [H3]; · iexact H3
            isplitl [H4]; · iexact H4
            isplitl [H5]; · iexists _; iexact H5
            isplitl [H6]; · iexact H6
            isplitl [HS0]; · iexact HS0
            iintro ⟨H0, H1, H2, H3, H4, ⟨%e5, H5⟩, H6, ⟨%es0, HS0⟩⟩
            isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]
            · unfold owns; iexists _; isplitr
              swap; · iexact H5
              ipureintro; exact View.read_writes_of_cover _ _ _ _ _ (cover0_A_5 c _ _ _ _ _ _ _ _ _ _ _ _ _ _ _ _ _ _ _ _ _ _ _ _ _ _)
            iexists _; iexact H6
          · rw [PhiS_castSucc m c t, PhiS_pos m c _ _ hz]
            rw [outsAt0_A m c t h0 h1 h2 h3]
            unfold out0_A_5 sout0_A_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
            iapply ((kernelRun0_A c (grid0.coords t) _ _ _ _ _ _ _ _ _ _ _ _ _ _ _ _ ((hcond0_0 t).mpr h0) (fun h => h1 ((hcond0_1 t).mp h)) (fun h => h2 ((hcond0_2 t).mp h)) ((hcond0_3 t).mpr h3) (iblk m c 0 t) (iblk m c 1 t) (iblk m c 2 t) (iblk m c 3 t) (iblk m c 4 t)).2.2.2 _ Set.univ _)
            isplitl [H0]; · iexact H0
            isplitl [H1]; · iexact H1
            isplitl [H2]; · iexact H2
            isplitl [H3]; · iexact H3
            isplitl [H4]; · iexact H4
            isplitl [H5]; · iexists _; iexact H5
            isplitl [H6]; · iexact H6
            isplitl [HS0]; · iexists _; iexact HS0
            iintro ⟨H0, H1, H2, H3, H4, ⟨%e5, H5⟩, H6, ⟨%es0, HS0⟩⟩
            isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]
            · unfold owns; iexists _; isplitr
              swap; · iexact H5
              ipureintro; exact View.read_writes_of_cover _ _ _ _ _ (cover0_A_5 c _ _ _ _ _ _ _ _ _ _ _ _ _ _ _ _ _ _ _ _ _ _ _ _ _ _)
            iexists _; iexact H6
        · exfalso; omega
  · by_cases h1 : t.val % 9 = 5
    · by_cases h2 : t.val % 9 = 8
      · exfalso; omega
      · by_cases h3 : t.val % 9 ≠ 5 ∧ t.val % 9 ≠ 8
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1) (fun h => h2 ((hcond0_2 t).mp h)) (fun h => h3 ((hcond0_3 t).mp h))], after0_5]
          rw [Dat.leavesExact_idle (dats m 0 c) 6 t (idleAt0_6_C t (fun h => h0 ((hcond0_0 t).mp h)) ((hcond0_1 t).mpr h1) (fun h => h2 ((hcond0_2 t).mp h)) (fun h => h3 ((hcond0_3 t).mp h))) (noFlush0_6_C t (fun h => h0 ((hcond0_0 t).mp h)) ((hcond0_1 t).mpr h1) (fun h => h2 ((hcond0_2 t).mp h)) (fun h => h3 ((hcond0_3 t).mp h)))]
          by_cases hz : t.val = 0
          · exfalso; have hN : t.val < 288 := lt_of_lt_of_eq t.isLt (show cfg0.N = 288 from N_0); omega
          · rw [PhiS_castSucc m c t, PhiS_pos m c _ _ hz]
            rw [outsAt0_C m c t h0 h1 h2 h3]
            unfold out0_C_5 sout0_C_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
            iapply ((kernelRun0_C c (grid0.coords t) _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) _).2.2.2 _ Set.univ _)
            isplitl [H0]; · iexact H0
            isplitl [H1]; · iexact H1
            isplitl [H2]; · iexact H2
            isplitl [H3]; · iexact H3
            isplitl [H4]; · iexact H4
            isplitl [H5]; · iexists _; iexact H5
            isplitl [H6]; · iexact H6
            isplitl [HS0]; · iexact HS0
            iintro ⟨H0, H1, H2, H3, H4, ⟨%e5, H5⟩, H6, HS0⟩
            isplitl [HS0 Hg]
            · isplitl [HS0]
              · iexact HS0
              iexact Hg
            isplitl [Ho]; · iexact Ho
            isplitl [H0]; · iexact H0
            isplitl [H1]; · iexact H1
            isplitl [H2]; · iexact H2
            isplitl [H3]; · iexact H3
            isplitl [H4]; · iexact H4
            isplitl [H5]
            · unfold owns; iexists _; isplitr
              swap; · iexact H5
              ipureintro; exact View.read_writes_of_cover _ _ _ _ _ (cover0_C_5 c _ _ _ _ _ _ _ _ _ _ _ _ _ _ _ _ _ _ _ _ _ _ _ _ _ _ _)
            iexists _; iexact H6
    · by_cases h2 : t.val % 9 = 8
      · by_cases h3 : t.val % 9 ≠ 5 ∧ t.val % 9 ≠ 8
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [idleAt0_5_D t (fun h => h0 ((hcond0_0 t).mp h)) (fun h => h1 ((hcond0_1 t).mp h)) ((hcond0_2 t).mpr h2) (fun h => h3 ((hcond0_3 t).mp h)), flushAt0_5_D t (fun h => h0 ((hcond0_0 t).mp h)) (fun h => h1 ((hcond0_1 t).mp h)) ((hcond0_2 t).mpr h2) (fun h => h3 ((hcond0_3 t).mp h))], after0_5]
          rw [show (dats m 0 c).leavesExact 6 t = owns (c : Thread nD τ) (ms0_6 t) fullShare ((dats m 0 c).after 6 t) from by
      unfold Dat.leavesExact; rw [liveAt0_6_D t (fun h => h0 ((hcond0_0 t).mp h)) (fun h => h1 ((hcond0_1 t).mp h)) ((hcond0_2 t).mpr h2) (fun h => h3 ((hcond0_3 t).mp h))], after0_6]
          by_cases hz : t.val = 0
          · exfalso; have hN : t.val < 288 := lt_of_lt_of_eq t.isLt (show cfg0.N = 288 from N_0); omega
          · rw [PhiS_castSucc m c t, PhiS_pos m c _ _ hz]
            rw [outsAt0_D m c t h0 h1 h2 h3]
            simp only [before0_5_D m c t h2]
            unfold out0_D_6 sout0_D_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
            iapply ((kernelRun0_D c (grid0.coords t) _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) _).2.2.2 _ Set.univ _)
            isplitl [H0]; · iexact H0
            isplitl [H1]; · iexact H1
            isplitl [H2]; · iexact H2
            isplitl [H3]; · iexact H3
            isplitl [H4]; · iexact H4
            isplitl [H5]; · iexact H5
            isplitl [H6]; · iexists _; iexact H6
            isplitl [HS0]; · iexact HS0
            iintro ⟨H0, H1, H2, H3, H4, H5, ⟨%e6, H6⟩, HS0⟩
            isplitl [HS0 Hg]
            · isplitl [HS0]
              · iexact HS0
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            unfold owns; iexists _; isplitr
            swap; · iexact H6
            ipureintro; exact View.read_writes_of_cover _ _ _ _ _ (cover0_D_6 c _ _ _ _ _ _ _ _ _ _ _ _ _ _ _ _ _ _ _ _ _ _ _ _ _ _ _)
      · by_cases h3 : t.val % 9 ≠ 5 ∧ t.val % 9 ≠ 8
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5_B t (fun h => h0 ((hcond0_0 t).mp h)) (fun h => h1 ((hcond0_1 t).mp h)) (fun h => h2 ((hcond0_2 t).mp h)) ((hcond0_3 t).mpr h3)], after0_5]
          rw [Dat.leavesExact_idle (dats m 0 c) 6 t (idleAt0_6_B t (fun h => h0 ((hcond0_0 t).mp h)) (fun h => h1 ((hcond0_1 t).mp h)) (fun h => h2 ((hcond0_2 t).mp h)) ((hcond0_3 t).mpr h3)) (noFlush0_6_B t (fun h => h0 ((hcond0_0 t).mp h)) (fun h => h1 ((hcond0_1 t).mp h)) (fun h => h2 ((hcond0_2 t).mp h)) ((hcond0_3 t).mpr h3))]
          by_cases hz : t.val = 0
          · exfalso; have hN : t.val < 288 := lt_of_lt_of_eq t.isLt (show cfg0.N = 288 from N_0); omega
          · rw [PhiS_castSucc m c t, PhiS_pos m c _ _ hz]
            rw [outsAt0_B m c t h0 h1 h2 h3]
            unfold out0_B_5 sout0_B_0; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
            iapply ((kernelRun0_B c (grid0.coords t) _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) _).2.2.2 _ Set.univ _)
            isplitl [H0]; · iexact H0
            isplitl [H1]; · iexact H1
            isplitl [H2]; · iexact H2
            isplitl [H3]; · iexact H3
            isplitl [H4]; · iexact H4
            isplitl [H5]; · iexists _; iexact H5
            isplitl [H6]; · iexact H6
            isplitl [HS0]; · iexact HS0
            iintro ⟨H0, H1, H2, H3, H4, ⟨%e5, H5⟩, H6, HS0⟩
            isplitl [HS0 Hg]
            · isplitl [HS0]
              · iexact HS0
              iexact Hg
            isplitl [Ho]; · iexact Ho
            isplitl [H0]; · iexact H0
            isplitl [H1]; · iexact H1
            isplitl [H2]; · iexact H2
            isplitl [H3]; · iexact H3
            isplitl [H4]; · iexact H4
            isplitl [H5]
            · unfold owns; iexists _; isplitr
              swap; · iexact H5
              ipureintro; exact View.read_writes_of_cover _ _ _ _ _ (cover0_B_5 c _ _ _ _ _ _ _ _ _ _ _ _ _ _ _ _ _ _ _ _ _ _ _ _ _ _ _)
            iexists _; iexact H6
        · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 288 := N_0; omega)

-- `θ_run_frame_track`'s implicit arguments are found by unifying its conclusion with this one, which takes unfolding plain
-- definitions in a metavariable's type
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.InprojIdeal.Kit

end
-- ==== Proof.InprojValue.lean ====
/- The input projection, kernel side: what the body stores at each kind of column tile, entry by entry. -/
module

public import proofs.«01_k».proof.Proof.InprojIdealFrame
public import Idealize.ShloMosaic.Lib.Pipeline.ValueKit
public import Idealize.ShloMosaic.Lib.Pointwise
public import Idealize.ShloMosaic.Lib.IdealHost
public import Idealize.ShloMosaic.Lib.Claim
public import Idealize.ShloMosaic.Lib.Tactic.CleanTypes

@[expose] public section

set_option maxRecDepth 16384

noncomputable section

namespace Cert.Proof.InprojValue

open Idealize.ShloMosaic Idealize.ShloMosaic.TcCoe Idealize.SL.Sem
open Idealize.ShloMosaic.Pipeline (Dat)

/-- One over the root of a token's mean square, with the stabilizing constant. -/
def rootInv (h : Fin 1024 → EReal) : EReal :=
  Ideal.rsqrt (Ideal.div (∑ j, h j * h j) (Ideal.ofBits .f32 0x44800000#32) + Ideal.ofBits .f32 0x358637BD#32)

/-- One column of a token's projection: the row `h` normalised with the gain `g`, against the column `w`. -/
def column (h g w : Fin 1024 → EReal) : EReal := ∑ j, h j * rootInv h * g j * w j

section Kernel
open Cert.InprojIdeal Cert.InprojIdeal.Gen Cert.InprojIdeal.Kit

/-- Column `n` of a tile, seen within its group of 128. -/
def lane (n : Fin 1024) : Fin 128 := ⟨n.val % 128, Nat.mod_lt _ (by decide)⟩

/-- The column with which column `n` turns: the one 64 away in its group. -/
def other (n : Fin 1024) : Fin 1024 := ⟨128 * (n.val / 128) + (n.val % 128 + 64) % 128, by have := n.isLt; omega⟩

/-- A tile rotated: each group of 128 columns by the two tables. -/
def turnTile (p : FVec Ideal S1024x1024 .f32) (a b : Vec Ideal S1024x128 .f32) (r n : Fin 1024) : EReal :=
  p (ix2 r n) * a (ix2 r (lane n)) + p (ix2 r (other n)) * b (ix2 r (lane n))

/-- The product of a normalised tile and a tile of the weights. -/
theorem product_entry (x : Vec Ideal S1024x1024 .f32) (g : Vec Ideal S1x1024 .f32) (w : Vec Ideal S1024x1024 .bf16) (r n : Fin 1024) :
    k0_pay2 (k0_pay1 x g) w (ix2 r n) = column (fun j => x (ix2 r j)) (fun j => g (ix2 0 j)) (fun j => w (ix2 j n)) := by
  unfold column rootInv
  pointwise [k0_pay2, k0_pay1]

theorem turnTile_at (p : FVec Ideal S1024x1024 .f32) (a b : Vec Ideal S1024x128 .f32) (r : Fin 1024) (l : Fin 128) (k : Fin 8)
    (n n' : Fin 1024) (hn : n.val = 128 * k.val + l.val) (hn' : n'.val = 128 * k.val + (l.val + 128 - 64) % 128) :
    p (ix2 r n) * a (ix2 r l) + p (ix2 r n') * b (ix2 r l) = turnTile p a b r ⟨128 * k.val + l.val, by omega⟩ := by
  have e0 : n = ⟨128 * k.val + l.val, by omega⟩ := Fin.ext hn
  have e1 : l = lane ⟨128 * k.val + l.val, by omega⟩ := Fin.ext (by show l.val = (128 * k.val + l.val) % 128; omega)
  have e2 : n' = other ⟨128 * k.val + l.val, by omega⟩ := Fin.ext (by
    show n'.val = 128 * ((128 * k.val + l.val) / 128) + ((128 * k.val + l.val) % 128 + 64) % 128; omega)
  exact congrArg₂ (· + ·)
    (congrArg₂ (· * ·) (congrArg (fun z => p (ix2 r z)) e0) (congrArg (fun z => a (ix2 r z)) e1))
    (congrArg₂ (· * ·) (congrArg (fun z => p (ix2 r z)) e2) (congrArg (fun z => b (ix2 r z)) e1))

/-! The tables as the body reads them. -/

theorem pay9_eq (a : Vec Ideal S1024x128 .f32) : k0_pay9 a = a := by funext y; idx_vars y; pointwise [k0_pay9]
theorem pay10_eq (a : Vec Ideal S1024x128 .f32) : k0_pay10 a = a := by funext y; idx_vars y; pointwise [k0_pay10]
theorem pay16_eq (a : Vec Ideal S1024x128 .f32) : k0_pay16 a = a := by funext y; idx_vars y; pointwise [k0_pay16]
theorem pay17_eq (a : Vec Ideal S1024x128 .f32) : k0_pay17 a = a := by funext y; idx_vars y; pointwise [k0_pay17]

/-! The rotated groups, one after the other. -/

theorem pay11_entry (P : FVec Ideal S1024x1024 .f32) (a b : Vec Ideal S1024x128 .f32) (r : Fin 1024) (l : Fin 128) :
    k0_pay11 P a b (ix2 r l) = turnTile P a b r ⟨128 * 0 + l.val, by omega⟩ := by
  refine Eq.trans ?_ (turnTile_at P a b r l 0 ⟨0 + l.val, by omega⟩ ⟨0 + (l.val + 128 - 64) % 128, by omega⟩ (by simp) (by simp))
  pointwise [k0_pay11, k0_pay9, k0_pay10]
theorem pay12_entry (P : FVec Ideal S1024x1024 .f32) (a b : Vec Ideal S1024x128 .f32) (r : Fin 1024) (l : Fin 128) :
    k0_pay12 P a b (ix2 r l) = turnTile P a b r ⟨128 * 1 + l.val, by omega⟩ := by
  refine Eq.trans ?_ (turnTile_at P a b r l 1 ⟨128 + l.val, by omega⟩ ⟨128 + (l.val + 128 - 64) % 128, by omega⟩ (by simp) (by simp))
  pointwise [k0_pay12, k0_pay9, k0_pay10]
theorem pay13_entry (P : FVec Ideal S1024x1024 .f32) (a b : Vec Ideal S1024x128 .f32) (r : Fin 1024) (l : Fin 128) :
    k0_pay13 P a b (ix2 r l) = turnTile P a b r ⟨128 * 2 + l.val, by omega⟩ := by
  refine Eq.trans ?_ (turnTile_at P a b r l 2 ⟨256 + l.val, by omega⟩ ⟨256 + (l.val + 128 - 64) % 128, by omega⟩ (by simp) (by simp))
  pointwise [k0_pay13, k0_pay9, k0_pay10]
theorem pay14_entry (P : FVec Ideal S1024x1024 .f32) (a b : Vec Ideal S1024x128 .f32) (r : Fin 1024) (l : Fin 128) :
    k0_pay14 P a b (ix2 r l) = turnTile P a b r ⟨128 * 3 + l.val, by omega⟩ := by
  refine Eq.trans ?_ (turnTile_at P a b r l 3 ⟨384 + l.val, by omega⟩ ⟨384 + (l.val + 128 - 64) % 128, by omega⟩ (by simp) (by simp))
  pointwise [k0_pay14, k0_pay9, k0_pay10]
theorem pay15_entry (P : FVec Ideal S1024x1024 .f32) (a b : Vec Ideal S1024x128 .f32) (r : Fin 1024) (l : Fin 128) :
    k0_pay15 P a b (ix2 r l) = turnTile P a b r ⟨128 * 4 + l.val, by omega⟩ := by
  refine Eq.trans ?_ (turnTile_at P a b r l 4 ⟨512 + l.val, by omega⟩ ⟨512 + (l.val + 128 - 64) % 128, by omega⟩ (by simp) (by simp))
  pointwise [k0_pay15, k0_pay9, k0_pay10]
theorem pay18_entry (P : FVec Ideal S1024x1024 .f32) (a b : Vec Ideal S1024x128 .f32) (r : Fin 1024) (l : Fin 128) :
    k0_pay18 P a b (ix2 r l) = turnTile P a b r ⟨128 * 0 + l.val, by omega⟩ := by
  refine Eq.trans ?_ (turnTile_at P a b r l 0 ⟨0 + l.val, by omega⟩ ⟨0 + (l.val + 128 - 64) % 128, by omega⟩ (by simp) (by simp))
  pointwise [k0_pay18, k0_pay16, k0_pay17]
theorem pay19_entry (P : FVec Ideal S1024x1024 .f32) (a b : Vec Ideal S1024x128 .f32) (r : Fin 1024) (l : Fin 128) :
    k0_pay19 P a b (ix2 r l) = turnTile P a b r ⟨128 * 1 + l.val, by omega⟩ := by
  refine Eq.trans ?_ (turnTile_at P a b r l 1 ⟨128 + l.val, by omega⟩ ⟨128 + (l.val + 128 - 64) % 128, by omega⟩ (by simp) (by simp))
  pointwise [k0_pay19, k0_pay16, k0_pay17]
theorem pay20_entry (P : FVec Ideal S1024x1024 .f32) (a b : Vec Ideal S1024x128 .f32) (r : Fin 1024) (l : Fin 128) :
    k0_pay20 P a b (ix2 r l) = turnTile P a b r ⟨128 * 2 + l.val, by omega⟩ := by
  refine Eq.trans ?_ (turnTile_at P a b r l 2 ⟨256 + l.val, by omega⟩ ⟨256 + (l.val + 128 - 64) % 128, by omega⟩ (by simp) (by simp))
  pointwise [k0_pay20, k0_pay16, k0_pay17]
theorem pay21_entry (P : FVec Ideal S1024x1024 .f32) (a b : Vec Ideal S1024x128 .f32) (r : Fin 1024) (l : Fin 128) :
    k0_pay21 P a b (ix2 r l) = turnTile P a b r ⟨128 * 3 + l.val, by omega⟩ := by
  refine Eq.trans ?_ (turnTile_at P a b r l 3 ⟨384 + l.val, by omega⟩ ⟨384 + (l.val + 128 - 64) % 128, by omega⟩ (by simp) (by simp))
  pointwise [k0_pay21, k0_pay16, k0_pay17]
theorem pay22_entry (P : FVec Ideal S1024x1024 .f32) (a b : Vec Ideal S1024x128 .f32) (r : Fin 1024) (l : Fin 128) :
    k0_pay22 P a b (ix2 r l) = turnTile P a b r ⟨128 * 4 + l.val, by omega⟩ := by
  refine Eq.trans ?_ (turnTile_at P a b r l 4 ⟨512 + l.val, by omega⟩ ⟨512 + (l.val + 128 - 64) % 128, by omega⟩ (by simp) (by simp))
  pointwise [k0_pay22, k0_pay16, k0_pay17]
theorem pay3_entry (v w : Vec Ideal S1024x1024 .bf16) (a b : FVec Ideal S1024x128 .f32) (r : Fin 1024) (l : Fin 128) :
    k0_pay3 v w a b (ix2 r l) = turnTile (k0_pay2 v w) a b r ⟨128 * 5 + l.val, by omega⟩ := by
  refine Eq.trans ?_ (turnTile_at (k0_pay2 v w) a b r l 5 ⟨640 + l.val, by omega⟩ ⟨640 + (l.val + 128 - 64) % 128, by omega⟩ (by simp) (by simp))
  unfold k0_pay3
  generalize k0_pay2 v w = P
  pointwise
theorem pay4_entry (v w : Vec Ideal S1024x1024 .bf16) (a b : FVec Ideal S1024x128 .f32) (r : Fin 1024) (l : Fin 128) :
    k0_pay4 v w a b (ix2 r l) = turnTile (k0_pay2 v w) a b r ⟨128 * 6 + l.val, by omega⟩ := by
  refine Eq.trans ?_ (turnTile_at (k0_pay2 v w) a b r l 6 ⟨768 + l.val, by omega⟩ ⟨768 + (l.val + 128 - 64) % 128, by omega⟩ (by simp) (by simp))
  unfold k0_pay4
  generalize k0_pay2 v w = P
  pointwise
theorem pay5_entry (v w : Vec Ideal S1024x1024 .bf16) (a b : FVec Ideal S1024x128 .f32) (r : Fin 1024) (l : Fin 128) :
    k0_pay5 v w a b (ix2 r l) = turnTile (k0_pay2 v w) a b r ⟨128 * 7 + l.val, by omega⟩ := by
  refine Eq.trans ?_ (turnTile_at (k0_pay2 v w) a b r l 7 ⟨896 + l.val, by omega⟩ ⟨896 + (l.val + 128 - 64) % 128, by omega⟩ (by simp) (by simp))
  unfold k0_pay5
  generalize k0_pay2 v w = P
  pointwise
theorem pay6_entry (v w : Vec Ideal S1024x1024 .bf16) (a b : FVec Ideal S1024x128 .f32) (r : Fin 1024) (l : Fin 128) :
    k0_pay6 v w a b (ix2 r l) = turnTile (k0_pay2 v w) a b r ⟨128 * 6 + l.val, by omega⟩ := by
  refine Eq.trans ?_ (turnTile_at (k0_pay2 v w) a b r l 6 ⟨768 + l.val, by omega⟩ ⟨768 + (l.val + 128 - 64) % 128, by omega⟩ (by simp) (by simp))
  unfold k0_pay6
  generalize k0_pay2 v w = P
  pointwise

/-! The buffer after the eight groups are stored. -/

theorem eight {e : EltTy} (G : S1024x1024.Idx → Elt Ideal e)
    (w0 : (Rect.unit (s := S1024x1024) ![0, 0] ![1024, 128] inb_S1024x1024_S1024x128_0_0).shape.Idx → Elt Ideal e)
    (w1 : (Rect.unit (s := S1024x1024) ![0, 128] ![1024, 128] inb_S1024x1024_S1024x128_0_128).shape.Idx → Elt Ideal e)
    (w2 : (Rect.unit (s := S1024x1024) ![0, 256] ![1024, 128] inb_S1024x1024_S1024x128_0_256).shape.Idx → Elt Ideal e)
    (w3 : (Rect.unit (s := S1024x1024) ![0, 384] ![1024, 128] inb_S1024x1024_S1024x128_0_384).shape.Idx → Elt Ideal e)
    (w4 : (Rect.unit (s := S1024x1024) ![0, 512] ![1024, 128] inb_S1024x1024_S1024x128_0_512).shape.Idx → Elt Ideal e)
    (w5 : (Rect.unit (s := S1024x1024) ![0, 640] ![1024, 128] inb_S1024x1024_S1024x128_0_640).shape.Idx → Elt Ideal e)
    (w6 : (Rect.unit (s := S1024x1024) ![0, 768] ![1024, 128] inb_S1024x1024_S1024x128_0_768).shape.Idx → Elt Ideal e)
    (w7 : (Rect.unit (s := S1024x1024) ![0, 896] ![1024, 128] inb_S1024x1024_S1024x128_0_896).shape.Idx → Elt Ideal e)
    (h0 : ∀ (r : Fin 1024) (l : Fin 128), w0 (ix2 r l) = G (ix2 r ⟨128 * 0 + l.val, by omega⟩))
    (h1 : ∀ (r : Fin 1024) (l : Fin 128), w1 (ix2 r l) = G (ix2 r ⟨128 * 1 + l.val, by omega⟩))
    (h2 : ∀ (r : Fin 1024) (l : Fin 128), w2 (ix2 r l) = G (ix2 r ⟨128 * 2 + l.val, by omega⟩))
    (h3 : ∀ (r : Fin 1024) (l : Fin 128), w3 (ix2 r l) = G (ix2 r ⟨128 * 3 + l.val, by omega⟩))
    (h4 : ∀ (r : Fin 1024) (l : Fin 128), w4 (ix2 r l) = G (ix2 r ⟨128 * 4 + l.val, by omega⟩))
    (h5 : ∀ (r : Fin 1024) (l : Fin 128), w5 (ix2 r l) = G (ix2 r ⟨128 * 5 + l.val, by omega⟩))
    (h6 : ∀ (r : Fin 1024) (l : Fin 128), w6 (ix2 r l) = G (ix2 r ⟨128 * 6 + l.val, by omega⟩))
    (h7 : ∀ (r : Fin 1024) (l : Fin 128), w7 (ix2 r l) = G (ix2 r ⟨128 * 7 + l.val, by omega⟩)) :
    View.canon (Val := Elt Ideal) (s := S1024x1024) (e := e) [⟨Rect.unit (s := S1024x1024) ![0, 896] ![1024, 128] inb_S1024x1024_S1024x128_0_896, w7⟩, ⟨Rect.unit (s := S1024x1024) ![0, 768] ![1024, 128] inb_S1024x1024_S1024x128_0_768, w6⟩, ⟨Rect.unit (s := S1024x1024) ![0, 640] ![1024, 128] inb_S1024x1024_S1024x128_0_640, w5⟩, ⟨Rect.unit (s := S1024x1024) ![0, 512] ![1024, 128] inb_S1024x1024_S1024x128_0_512, w4⟩, ⟨Rect.unit (s := S1024x1024) ![0, 384] ![1024, 128] inb_S1024x1024_S1024x128_0_384, w3⟩, ⟨Rect.unit (s := S1024x1024) ![0, 256] ![1024, 128] inb_S1024x1024_S1024x128_0_256, w2⟩, ⟨Rect.unit (s := S1024x1024) ![0, 128] ![1024, 128] inb_S1024x1024_S1024x128_0_128, w1⟩, ⟨Rect.unit (s := S1024x1024) ![0, 0] ![1024, 128] inb_S1024x1024_S1024x128_0_0, w0⟩] = G := by
  funext y
  refine View.canon_apply_of_pieces G _ (fun p hp => ?_) y (View.cover_of_tiledL _ ![1024, 128] (by sl_kernel_rfl) y)
  simp only [List.mem_cons, List.not_mem_nil, or_false] at hp
  rcases hp with rfl | rfl | rfl | rfl | rfl | rfl | rfl | rfl
  · intro x
    obtain ⟨r, l, rfl⟩ : ∃ (r : Fin 1024) (l : Fin 128), x = ix2 r l := ⟨x 0, x 1, funext fun a => by match a with | ⟨0, _⟩ => rfl | ⟨1, _⟩ => rfl⟩
    refine (h7 r l).trans (congrArg G (funext fun a => Fin.ext ?_))
    match a with
    | ⟨0, _⟩ => show r.val = 0 + 1 * r.val; omega
    | ⟨1, _⟩ => show 128 * 7 + l.val = 896 + 1 * l.val; omega
  · intro x
    obtain ⟨r, l, rfl⟩ : ∃ (r : Fin 1024) (l : Fin 128), x = ix2 r l := ⟨x 0, x 1, funext fun a => by match a with | ⟨0, _⟩ => rfl | ⟨1, _⟩ => rfl⟩
    refine (h6 r l).trans (congrArg G (funext fun a => Fin.ext ?_))
    match a with
    | ⟨0, _⟩ => show r.val = 0 + 1 * r.val; omega
    | ⟨1, _⟩ => show 128 * 6 + l.val = 768 + 1 * l.val; omega
  · intro x
    obtain ⟨r, l, rfl⟩ : ∃ (r : Fin 1024) (l : Fin 128), x = ix2 r l := ⟨x 0, x 1, funext fun a => by match a with | ⟨0, _⟩ => rfl | ⟨1, _⟩ => rfl⟩
    refine (h5 r l).trans (congrArg G (funext fun a => Fin.ext ?_))
    match a with
    | ⟨0, _⟩ => show r.val = 0 + 1 * r.val; omega
    | ⟨1, _⟩ => show 128 * 5 + l.val = 640 + 1 * l.val; omega
  · intro x
    obtain ⟨r, l, rfl⟩ : ∃ (r : Fin 1024) (l : Fin 128), x = ix2 r l := ⟨x 0, x 1, funext fun a => by match a with | ⟨0, _⟩ => rfl | ⟨1, _⟩ => rfl⟩
    refine (h4 r l).trans (congrArg G (funext fun a => Fin.ext ?_))
    match a with
    | ⟨0, _⟩ => show r.val = 0 + 1 * r.val; omega
    | ⟨1, _⟩ => show 128 * 4 + l.val = 512 + 1 * l.val; omega
  · intro x
    obtain ⟨r, l, rfl⟩ : ∃ (r : Fin 1024) (l : Fin 128), x = ix2 r l := ⟨x 0, x 1, funext fun a => by match a with | ⟨0, _⟩ => rfl | ⟨1, _⟩ => rfl⟩
    refine (h3 r l).trans (congrArg G (funext fun a => Fin.ext ?_))
    match a with
    | ⟨0, _⟩ => show r.val = 0 + 1 * r.val; omega
    | ⟨1, _⟩ => show 128 * 3 + l.val = 384 + 1 * l.val; omega
  · intro x
    obtain ⟨r, l, rfl⟩ : ∃ (r : Fin 1024) (l : Fin 128), x = ix2 r l := ⟨x 0, x 1, funext fun a => by match a with | ⟨0, _⟩ => rfl | ⟨1, _⟩ => rfl⟩
    refine (h2 r l).trans (congrArg G (funext fun a => Fin.ext ?_))
    match a with
    | ⟨0, _⟩ => show r.val = 0 + 1 * r.val; omega
    | ⟨1, _⟩ => show 128 * 2 + l.val = 256 + 1 * l.val; omega
  · intro x
    obtain ⟨r, l, rfl⟩ : ∃ (r : Fin 1024) (l : Fin 128), x = ix2 r l := ⟨x 0, x 1, funext fun a => by match a with | ⟨0, _⟩ => rfl | ⟨1, _⟩ => rfl⟩
    refine (h1 r l).trans (congrArg G (funext fun a => Fin.ext ?_))
    match a with
    | ⟨0, _⟩ => show r.val = 0 + 1 * r.val; omega
    | ⟨1, _⟩ => show 128 * 1 + l.val = 128 + 1 * l.val; omega
  · intro x
    obtain ⟨r, l, rfl⟩ : ∃ (r : Fin 1024) (l : Fin 128), x = ix2 r l := ⟨x 0, x 1, funext fun a => by match a with | ⟨0, _⟩ => rfl | ⟨1, _⟩ => rfl⟩
    refine (h0 r l).trans (congrArg G (funext fun a => Fin.ext ?_))
    match a with
    | ⟨0, _⟩ => show r.val = 0 + 1 * r.val; omega
    | ⟨1, _⟩ => show 128 * 0 + l.val = 0 + 1 * l.val; omega

/-! What each case leaves, from the blocks and the scratch. -/

/-- The first column tile leaves the normalised rows in the scratch. -/
theorem scratch_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i) (hc2 : ¬cond0_2 i) (hc3 : cond0_3 i)
    (x0 : Vec Ideal S1024x1024 .f32) (x1 : Vec Ideal S1x1024 .f32) (x2 : Vec Ideal S1024x1024 .bf16) (x3 : Vec Ideal S1024x128 .f32) (x4 : Vec Ideal S1024x128 .f32) :
    sout0_A_0 c i arg2 harg2 arg3 harg3 arg4 harg4 arg5 harg5 arg6 harg6 arg7 harg7 arg8 harg8 arg9 harg9 hc0 hc1 hc2 hc3 x0 x1 x2 x3 x4 = k0_pay1 x0 x1 := by
  frame_out
/-- The first column tile. -/
theorem main_A (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : cond0_0 i) (hc1 : ¬cond0_1 i) (hc2 : ¬cond0_2 i) (hc3 : cond0_3 i)
    (x0 : Vec Ideal S1024x1024 .f32) (x1 : Vec Ideal S1x1024 .f32) (x2 : Vec Ideal S1024x1024 .bf16) (x3 : Vec Ideal S1024x128 .f32) (x4 : Vec Ideal S1024x128 .f32) :
    out0_A_5 c i arg2 harg2 arg3 harg3 arg4 harg4 arg5 harg5 arg6 harg6 arg7 harg7 arg8 harg8 arg9 harg9 hc0 hc1 hc2 hc3 x0 x1 x2 x3 x4 = k0_pay8 (k0_pay1 x0 x1) x2 := by
  frame_out
/-- A plain column tile. -/
theorem main_B (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : ¬cond0_2 i) (hc3 : cond0_3 i)
    (x0 : Vec Ideal S1024x1024 .f32) (x1 : Vec Ideal S1x1024 .f32) (x2 : Vec Ideal S1024x1024 .bf16) (x3 : Vec Ideal S1024x128 .f32) (x4 : Vec Ideal S1024x128 .f32) (xs0 : Vec Ideal S1024x1024 .bf16) :
    out0_B_5 c i arg2 harg2 arg3 harg3 arg4 harg4 arg5 harg5 arg6 harg6 arg7 harg7 arg8 harg8 arg9 harg9 hc0 hc1 hc2 hc3 x0 x1 x2 x3 x4 xs0 = k0_pay8 xs0 x2 := by
  frame_out
/-- The column tile of the queries. -/
theorem main_C (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : cond0_1 i) (hc2 : ¬cond0_2 i) (hc3 : ¬cond0_3 i)
    (x0 : Vec Ideal S1024x1024 .f32) (x1 : Vec Ideal S1x1024 .f32) (x2 : Vec Ideal S1024x1024 .bf16) (x3 : Vec Ideal S1024x128 .f32) (x4 : Vec Ideal S1024x128 .f32) (xs0 : Vec Ideal S1024x1024 .bf16) :
    out0_C_5 c i arg2 harg2 arg3 harg3 arg4 harg4 arg5 harg5 arg6 harg6 arg7 harg7 arg8 harg8 arg9 harg9 hc0 hc1 hc2 hc3 x0 x1 x2 x3 x4 xs0 = fun y => turnTile (k0_pay2 xs0 x2) x3 x4 (y 0) (y 1) := by
  frame_out
  refine eight (e := .bf16) (fun y : S1024x1024.Idx => turnTile (k0_pay2 xs0 x2) x3 x4 (y 0) (y 1)) _ _ _ _ _ _ _ _ ?_ ?_ ?_ ?_ ?_ ?_ ?_ ?_
  · exact pay11_entry _ _ _
  · exact pay12_entry _ _ _
  · exact pay13_entry _ _ _
  · exact pay14_entry _ _ _
  · exact pay15_entry _ _ _
  · rw [pay9_eq, pay10_eq]; exact pay3_entry _ _ _ _
  · rw [pay9_eq, pay10_eq]; exact pay4_entry _ _ _ _
  · rw [pay9_eq, pay10_eq]; exact pay5_entry _ _ _ _
/-- The last column tile: the groups of the index keys' two ends turn, the rest does not. -/
def miscTile (p : FVec Ideal S1024x1024 .f32) (a b : Vec Ideal S1024x128 .f32) (r n : Fin 1024) : EReal :=
  if n.val < 640 ∨ (768 ≤ n.val ∧ n.val < 896) then turnTile p a b r n else p (ix2 r n)

theorem misc_turn (p : FVec Ideal S1024x1024 .f32) (a b : Vec Ideal S1024x128 .f32) (r n : Fin 1024)
    (h : n.val < 640 ∨ (768 ≤ n.val ∧ n.val < 896)) : turnTile p a b r n = miscTile p a b r n := (if_pos h).symm
theorem misc_keep (p : FVec Ideal S1024x1024 .f32) (a b : Vec Ideal S1024x128 .f32) (r n : Fin 1024)
    (h : ¬(n.val < 640 ∨ (768 ≤ n.val ∧ n.val < 896))) : p (ix2 r n) = miscTile p a b r n := (if_neg h).symm

theorem pay23_entry (P : FVec Ideal S1024x1024 .f32) (r : Fin 1024) (l : Fin 128) :
    k0_pay23 P (ix2 r l) = P (ix2 r ⟨128 * 5 + l.val, by omega⟩) := by
  pointwise [k0_pay23]
theorem pay7_entry (v w : Vec Ideal S1024x1024 .bf16) (r : Fin 1024) (l : Fin 128) :
    k0_pay7 v w (ix2 r l) = k0_pay2 v w (ix2 r ⟨128 * 7 + l.val, by omega⟩) := by
  unfold k0_pay7
  generalize k0_pay2 v w = P
  pointwise

/-- The last column tile. -/
theorem misc_D (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .bf16) (harg9 : arg9.IsWhole) (hc0 : ¬cond0_0 i) (hc1 : ¬cond0_1 i) (hc2 : cond0_2 i) (hc3 : ¬cond0_3 i)
    (x0 : Vec Ideal S1024x1024 .f32) (x1 : Vec Ideal S1x1024 .f32) (x2 : Vec Ideal S1024x1024 .bf16) (x3 : Vec Ideal S1024x128 .f32) (x4 : Vec Ideal S1024x128 .f32) (xs0 : Vec Ideal S1024x1024 .bf16) :
    out0_D_6 c i arg2 harg2 arg3 harg3 arg4 harg4 arg5 harg5 arg6 harg6 arg7 harg7 arg8 harg8 arg9 harg9 hc0 hc1 hc2 hc3 x0 x1 x2 x3 x4 xs0 = fun y => miscTile (k0_pay2 xs0 x2) x3 x4 (y 0) (y 1) := by
  frame_out
  refine eight (e := .f32) (fun y : S1024x1024.Idx => miscTile (k0_pay2 xs0 x2) x3 x4 (y 0) (y 1)) _ _ _ _ _ _ _ _ ?_ ?_ ?_ ?_ ?_ ?_ ?_ ?_
  · exact fun r l => (pay18_entry _ _ _ r l).trans (misc_turn _ _ _ _ _ (by dsimp only; omega))
  · exact fun r l => (pay19_entry _ _ _ r l).trans (misc_turn _ _ _ _ _ (by dsimp only; omega))
  · exact fun r l => (pay20_entry _ _ _ r l).trans (misc_turn _ _ _ _ _ (by dsimp only; omega))
  · exact fun r l => (pay21_entry _ _ _ r l).trans (misc_turn _ _ _ _ _ (by dsimp only; omega))
  · exact fun r l => (pay22_entry _ _ _ r l).trans (misc_turn _ _ _ _ _ (by dsimp only; omega))
  · exact fun r l => (pay23_entry _ r l).trans (misc_keep _ x3 x4 _ _ (by dsimp only; omega))
  · rw [pay16_eq, pay17_eq]; exact fun r l => (pay6_entry _ _ _ _ r l).trans (misc_turn _ _ _ _ _ (by dsimp only; omega))
  · exact fun r l => (pay7_entry _ _ r l).trans (misc_keep _ x3 x4 _ _ (by dsimp only; omega))

end Kernel
end Cert.Proof.InprojValue
end
-- ==== Proof.InprojFinal.lean ====
/- The input projection, kernel side: each block as a part of its argument, the scratch from one column tile to the next, and
   the two arrays the kernel leaves. -/
module

public import proofs.«01_k».proof.Proof.InprojValue
public import Idealize.ShloMosaic.Lib.Pipeline.Covers

@[expose] public section

set_option maxRecDepth 16384

noncomputable section

namespace Cert.Proof.InprojValue

open Idealize.ShloMosaic Idealize.ShloMosaic.TcCoe Idealize.SL.Sem
open Idealize.ShloMosaic.Pipeline (Dat)
open Cert.InprojIdeal (S32768x1024 S1024 S1024x9216 S4096x32 S32768x8192)

/-- Column `n` of token `r`'s projection. -/
def projected (x : Vec Ideal S32768x1024 .f32) (g : Vec Ideal S1024 .f32) (w : Vec Ideal S1024x9216 .f32) (r : Fin 32768)
    (n : Fin 9216) : EReal := column (fun j => x (ix2 r j)) (fun j => g (ix1 j)) (fun j => w (ix2 j n))

/-- The column with which column `n` turns. -/
def mate (n : Fin 9216) : Fin 9216 := ⟨128 * (n.val / 128) + (n.val % 128 + 64) % 128, by have := n.isLt; omega⟩

/-- The cosine, or the sine, of column `n` at token `r`. -/
def angle (x : Vec Ideal S4096x32 .f32) (r : Fin 32768) (n : Fin 9216) : EReal :=
  x (ix2 ⟨r.val % 4096, Nat.mod_lt _ (by decide)⟩ ⟨n.val % 32, Nat.mod_lt _ (by decide)⟩)

/-- The rotated column `n` of token `r`. -/
def turned (x : Vec Ideal S32768x1024 .f32) (g : Vec Ideal S1024 .f32) (w : Vec Ideal S1024x9216 .f32) (cos sin : Vec Ideal S4096x32 .f32)
    (r : Fin 32768) (n : Fin 9216) : EReal :=
  projected x g w r n * angle cos r n
    + projected x g w r (mate n) * (if n.val % 128 < 64 then -angle sin r n else angle sin r n)

/-- The first result: the queries' columns rotated, the others as they are. -/
def mainOut (x : Vec Ideal S32768x1024 .f32) (g : Vec Ideal S1024 .f32) (w : Vec Ideal S1024x9216 .f32) (cos sin : Vec Ideal S4096x32 .f32)
    (r : Fin 32768) (n : Fin 8192) : EReal :=
  if 5120 ≤ n.val ∧ n.val < 6144 then turned x g w cos sin r ⟨n.val, by omega⟩ else projected x g w r ⟨n.val, by omega⟩

/-- The second result: the last 1024 columns, the index queries', the keys' and the index keys' rotated. -/
def miscOut (x : Vec Ideal S32768x1024 .f32) (g : Vec Ideal S1024 .f32) (w : Vec Ideal S1024x9216 .f32) (cos sin : Vec Ideal S4096x32 .f32)
    (r : Fin 32768) (n : Fin 1024) : EReal :=
  if n.val < 640 ∨ (768 ≤ n.val ∧ n.val < 896) then turned x g w cos sin r ⟨8192 + n.val, by omega⟩
    else projected x g w r ⟨8192 + n.val, by omega⟩

section Kernel
open Cert.InprojIdeal Cert.InprojIdeal.Gen Cert.InprojIdeal.Kit

variable (m : (ℓ : Loc nD τ sig) → Buf (Elt Ideal) ℓ)

/-- The cosine of lane `l` at position `p`. -/
def cosTable (x : Vec Ideal S4096x32 .f32) (p : Fin 4096) (l : Fin 128) : EReal := x (ix2 p ⟨l.val % 32, Nat.mod_lt _ (by decide)⟩)
/-- The sine of lane `l` at position `p`, negated in the first half of the lanes. -/
def sinTable (x : Vec Ideal S4096x32 .f32) (p : Fin 4096) (l : Fin 128) : EReal :=
  if l.val < 64 then -(x (ix2 p ⟨l.val % 32, Nat.mod_lt _ (by decide)⟩) : EReal) else x (ix2 p ⟨l.val % 32, Nat.mod_lt _ (by decide)⟩)

/-! The index maps as numbers. -/

theorem tr0 : ∀ t : Fin grid0.N, cc0_transform_0 (grid0.coords t) 0 = t.val / 9 ∧ cc0_transform_0 (grid0.coords t) 1 = 0 := by decide +kernel
theorem tr1 : ∀ t : Fin grid0.N, cc0_transform_1 (grid0.coords t) 0 = 0 ∧ cc0_transform_1 (grid0.coords t) 1 = 0 := by decide +kernel
theorem tr2 : ∀ t : Fin grid0.N, cc0_transform_2 (grid0.coords t) 0 = 0 ∧ cc0_transform_2 (grid0.coords t) 1 = t.val % 9 := by decide +kernel
theorem tr3 : ∀ t : Fin grid0.N, cc0_transform_3 (grid0.coords t) 0 = t.val / 9 % 4 ∧ cc0_transform_3 (grid0.coords t) 1 = 0 := by decide +kernel
theorem tr4 : ∀ t : Fin grid0.N, cc0_transform_4 (grid0.coords t) 0 = t.val / 9 % 4 ∧ cc0_transform_4 (grid0.coords t) 1 = 0 := by decide +kernel
theorem tr5 : ∀ t : Fin grid0.N, cc0_transform_5 (grid0.coords t) 0 = t.val / 9 ∧ cc0_transform_5 (grid0.coords t) 1 = min (t.val % 9) 7 := by decide +kernel
theorem tr6 : ∀ t : Fin grid0.N, cc0_transform_6 (grid0.coords t) 0 = t.val / 9 ∧ cc0_transform_6 (grid0.coords t) 1 = 0 := by decide +kernel

theorem lt_N (t : Fin cfg0.N) : t.val < 288 := Nat.lt_of_lt_of_eq t.isLt N_0

/-- Row `r` of point `t`'s row tile. -/
def rowOf (t : Fin cfg0.N) (r : Fin 1024) : Fin 32768 := ⟨1024 * (t.val / 9) + r.val, by have := lt_N t; omega⟩
/-- Column `n` of point `t`'s column tile. -/
def colOf (t : Fin cfg0.N) (n : Fin 1024) : Fin 9216 := ⟨1024 * (t.val % 9) + n.val, by omega⟩
/-- Row `r` of point `t`'s tile of the tables. -/
def posOf (t : Fin cfg0.N) (r : Fin 1024) : Fin 4096 := ⟨1024 * (t.val / 9 % 4) + r.val, by omega⟩

/-! The blocks at a point, entry by entry. -/

theorem i0_entry (c : Dev nD) (t : Fin cfg0.N) (r j : Fin 1024) :
    iblk m c 0 t (ix2 r j) = V m c main_arg0 (ix2 (rowOf t r) j) := by
  refine congrArg (V m c main_arg0) (funext fun a => Fin.ext ?_)
  match a with
  | ⟨0, _⟩ => show cc0_transform_0 (grid0.coords t) 0 * 1024 + 1 * r.val = 1024 * (t.val / 9) + r.val; rw [(tr0 t).1]; omega
  | ⟨1, _⟩ => show cc0_transform_0 (grid0.coords t) 1 * 1024 + 1 * j.val = j.val; rw [(tr0 t).2]; omega
theorem i1_entry (c : Dev nD) (t : Fin cfg0.N) (j : Fin 1024) :
    iblk m c 1 t (ix2 0 j) = V m c main_v5 (ix2 0 j) := by
  refine congrArg (V m c main_v5) (funext fun a => Fin.ext ?_)
  match a with
  | ⟨0, _⟩ => show cc0_transform_1 (grid0.coords t) 0 * 1 + 1 * 0 = 0; rw [(tr1 t).1]
  | ⟨1, _⟩ => show cc0_transform_1 (grid0.coords t) 1 * 1024 + 1 * j.val = j.val; rw [(tr1 t).2]; omega
theorem i2_entry (c : Dev nD) (t : Fin cfg0.N) (j n : Fin 1024) :
    iblk m c 2 t (ix2 j n) = V m c main_v4 (ix2 j (colOf t n)) := by
  refine congrArg (V m c main_v4) (funext fun a => Fin.ext ?_)
  match a with
  | ⟨0, _⟩ => show cc0_transform_2 (grid0.coords t) 0 * 1024 + 1 * j.val = j.val; rw [(tr2 t).1]; omega
  | ⟨1, _⟩ => show cc0_transform_2 (grid0.coords t) 1 * 1024 + 1 * n.val = 1024 * (t.val % 9) + n.val; rw [(tr2 t).2]; omega
theorem i3_entry (c : Dev nD) (t : Fin cfg0.N) (r : Fin 1024) (l : Fin 128) :
    iblk m c 3 t (ix2 r l) = V m c main_v0 (ix2 (posOf t r) l) := by
  refine congrArg (V m c main_v0) (funext fun a => Fin.ext ?_)
  match a with
  | ⟨0, _⟩ => show cc0_transform_3 (grid0.coords t) 0 * 1024 + 1 * r.val = 1024 * (t.val / 9 % 4) + r.val; rw [(tr3 t).1]; omega
  | ⟨1, _⟩ => show cc0_transform_3 (grid0.coords t) 1 * 128 + 1 * l.val = l.val; rw [(tr3 t).2]; omega
theorem i4_entry (c : Dev nD) (t : Fin cfg0.N) (r : Fin 1024) (l : Fin 128) :
    iblk m c 4 t (ix2 r l) = V m c main_v3 (ix2 (posOf t r) l) := by
  refine congrArg (V m c main_v3) (funext fun a => Fin.ext ?_)
  match a with
  | ⟨0, _⟩ => show cc0_transform_4 (grid0.coords t) 0 * 1024 + 1 * r.val = 1024 * (t.val / 9 % 4) + r.val; rw [(tr4 t).1]; omega
  | ⟨1, _⟩ => show cc0_transform_4 (grid0.coords t) 1 * 128 + 1 * l.val = l.val; rw [(tr4 t).2]; omega

/-! What the host operations before the launch leave. -/

theorem V_w (c : Dev nD) : (V m c main_v4 : Vec Ideal S1024x9216 .bf16) = (m ((c : Thread nD τ).loc main_arg2) : Vec Ideal S1024x9216 .f32) := by
  unfold V
  simp only [hostOps0]
  after_results_simp
  rfl
theorem V_gain (c : Dev nD) (j : Fin 1024) :
    (V m c main_v5 : Vec Ideal S1x1024 .f32) (ix2 0 j) = (m ((c : Thread nD τ).loc main_arg1) : Vec Ideal S1024 .f32) (ix1 j) := by
  unfold V
  simp only [hostOps0]
  after_results_simp
  pointwise
/-- The cosine table the kernel reads repeats the argument's columns. -/
theorem V_cos (c : Dev nD) (p : Fin 4096) (l : Fin 128) :
    (V m c main_v0 : Vec Ideal S4096x128 .f32) (ix2 p l) = cosTable (m ((c : Thread nD τ).loc main_arg3)) p l := by
  unfold V
  simp only [hostOps0]
  after_results_simp
  pointwise [cosTable]
  split_ifs <;> refine congrArg (fun z => (m ((c : Thread nD τ).loc main_arg3) : Vec Ideal S4096x32 .f32) (ix2 p z)) (Fin.ext ?_) <;> simp only <;> omega
/-- The sine table does so too, the first half negated. -/
theorem V_sin (c : Dev nD) (p : Fin 4096) (l : Fin 128) :
    (V m c main_v3 : Vec Ideal S4096x128 .f32) (ix2 p l) = sinTable (m ((c : Thread nD τ).loc main_arg4)) p l := by
  unfold V
  simp only [hostOps0]
  after_results_simp
  pointwise
  after_results_simp
  pointwise
  by_cases hl : l.val < 64
  · refine Eq.trans ?_ (if_pos hl).symm
    split_ifs
    all_goals first
      | (exfalso; omega)
      | (refine congrArg (fun z => (Neg.neg ((m ((c : Thread nD τ).loc main_arg4) : Vec Ideal S4096x32 .f32) (ix2 p z)) : EReal)) (Fin.ext ?_); simp only; omega)
  · refine Eq.trans ?_ (if_neg hl).symm
    split_ifs
    all_goals first
      | (exfalso; omega)
      | (refine congrArg (fun z => (m ((c : Thread nD τ).loc main_arg4) : Vec Ideal S4096x32 .f32) (ix2 p z)) (Fin.ext ?_); simp only; omega)

/-! The scratch. -/

theorem normal_step (c : Dev nD) (t s : Fin cfg0.N) (h : t.val / 9 = s.val / 9) :
    k0_pay1 (iblk m c 0 t) (iblk m c 1 t) = k0_pay1 (iblk m c 0 s) (iblk m c 1 s) := by
  have h0 : (iblk m c 0 t : Vec Ideal S1024x1024 .f32) = iblk m c 0 s := by
    funext y
    obtain ⟨r, j, rfl⟩ : ∃ r j : Fin 1024, y = ix2 r j := ⟨y 0, y 1, funext fun a => by
      match a with
      | ⟨0, _⟩ => rfl
      | ⟨1, _⟩ => rfl⟩
    exact ((i0_entry m c t r j).trans (congrArg (fun z => V m c main_arg0 (ix2 z j)) (Fin.ext (by
      show 1024 * (t.val / 9) + r.val = 1024 * (s.val / 9) + r.val; rw [h])))).trans (i0_entry m c s r j).symm
  have h1 : (iblk m c 1 t : Vec Ideal S1x1024 .f32) = iblk m c 1 s := by
    funext y
    obtain ⟨j, rfl⟩ : ∃ j : Fin 1024, y = ix2 0 j := ⟨y 1, funext fun a => by
      match a with
      | ⟨0, _⟩ => exact Subsingleton.elim (α := Fin 1) _ _
      | ⟨1, _⟩ => rfl⟩
    exact (i1_entry m c t j).trans (i1_entry m c s j).symm
  exact congrArg₂ k0_pay1 h0 h1

/-- At a column tile after the first the scratch still is what the first left. -/
theorem outs_scratch (c : Dev nD) (t : Fin cfg0.N) (h0 : ¬t.val % 9 = 0) :
    (outsAt0 m c t.val t.isLt).2.2 = (outsAt0 m c (t.val - 1) (Nat.lt_of_le_of_lt (Nat.sub_le _ _) t.isLt)).2.2 := by
  by_cases h1 : t.val % 9 = 5
  · rw [outsAt0_C m c t h0 h1 (by omega) (by omega)]; rfl
  · by_cases h2 : t.val % 9 = 8
    · rw [outsAt0_D m c t h0 h1 h2 (by omega)]; rfl
    · rw [outsAt0_B m c t h0 h1 h2 ⟨h1, h2⟩]; rfl

theorem scratch_first (c : Dev nD) (t : Fin cfg0.N) (h0 : t.val % 9 = 0) :
    (outsAt0 m c t.val t.isLt).2.2 = k0_pay1 (iblk m c 0 t) (iblk m c 1 t) := by
  have h := outsAt0_A m c t h0 (by omega) (by omega) (by omega)
  rw [scratch_A, main_A] at h
  rw [h]

/-- After every point the scratch holds the point's rows normalised. -/
theorem scratch_at (c : Dev nD) : ∀ (n : ℕ) (hn : n < cfg0.N),
    (outsAt0 m c n hn).2.2 = k0_pay1 (iblk m c 0 ⟨n, hn⟩) (iblk m c 1 ⟨n, hn⟩)
  | n, hn => by
    by_cases h0 : n % 9 = 0
    · exact scratch_first m c ⟨n, hn⟩ h0
    · have hlt : n - 1 < n := by omega
      rw [outs_scratch m c ⟨n, hn⟩ h0]
      show (outsAt0 m c (n - 1) _).2.2 = _
      rw [scratch_at c (n - 1) (by omega)]
      exact normal_step m c _ _ (by show (n - 1) / 9 = n / 9; omega)
  termination_by n => n

theorem scratch_before (c : Dev nD) (t : Fin cfg0.N) (h0 : ¬t.val % 9 = 0) :
    (outsAt0 m c (t.val - 1) (Nat.lt_of_le_of_lt (Nat.sub_le _ _) t.isLt)).2.2 = k0_pay1 (iblk m c 0 t) (iblk m c 1 t) :=
  (outs_scratch m c t h0).symm.trans (scratch_at m c t.val t.isLt)

/-! The tiles a point writes. -/

/-- The product at a point is its tile of the projection. -/
theorem product_at (c : Dev nD) (t : Fin cfg0.N) (r n : Fin 1024) :
    k0_pay2 (k0_pay1 (iblk m c 0 t) (iblk m c 1 t)) (iblk m c 2 t) (ix2 r n)
      = projected (m ((c : Thread nD τ).loc main_arg0)) (m ((c : Thread nD τ).loc main_arg1)) (m ((c : Thread nD τ).loc main_arg2)) (rowOf t r) (colOf t n) :=
  (product_entry _ _ _ r n).trans (congr (congr (congrArg column
    (funext fun j => (i0_entry m c t r j).trans (congrFun (V_main_arg0 m c) _)))
    (funext fun j => (i1_entry m c t j).trans (V_gain m c j)))
    (funext fun j => (i2_entry m c t j n).trans (congrFun (V_w m c) _)))

/-- The rotated product at a point is its tile of the rotated projection. -/
theorem turn_at (c : Dev nD) (t : Fin cfg0.N) (r n : Fin 1024) :
    turnTile (k0_pay2 (k0_pay1 (iblk m c 0 t) (iblk m c 1 t)) (iblk m c 2 t)) (iblk m c 3 t) (iblk m c 4 t) r n
      = turned (m ((c : Thread nD τ).loc main_arg0)) (m ((c : Thread nD τ).loc main_arg1)) (m ((c : Thread nD τ).loc main_arg2)) (m ((c : Thread nD τ).loc main_arg3)) (m ((c : Thread nD τ).loc main_arg4)) (rowOf t r) (colOf t n) := by
  have hp : posOf t r = ⟨(rowOf t r).val % 4096, Nat.mod_lt _ (by decide)⟩ := Fin.ext (by
    show 1024 * (t.val / 9 % 4) + r.val = (1024 * (t.val / 9) + r.val) % 4096; omega)
  have hl : (⟨(lane n).val % 32, Nat.mod_lt _ (by decide)⟩ : Fin 32) = ⟨(colOf t n).val % 32, Nat.mod_lt _ (by decide)⟩ := Fin.ext (by
    show n.val % 128 % 32 = (1024 * (t.val % 9) + n.val) % 32; omega)
  have hm : colOf t (other n) = mate (colOf t n) := Fin.ext (by
    show 1024 * (t.val % 9) + (128 * (n.val / 128) + (n.val % 128 + 64) % 128)
      = 128 * ((1024 * (t.val % 9) + n.val) / 128) + ((1024 * (t.val % 9) + n.val) % 128 + 64) % 128; omega)
  have hc : ((lane n).val < 64) = ((colOf t n).val % 128 < 64) := congrArg (· < 64) (by
    show n.val % 128 = (1024 * (t.val % 9) + n.val) % 128; omega)
  refine congrArg₂ (fun u v : EReal => u + v) (congrArg₂ (fun u v : EReal => u * v) (product_at m c t r n) ?_)
    (congrArg₂ (fun u v : EReal => u * v) ((product_at m c t r (other n)).trans (congrArg _ hm)) ?_)
  · refine ((i3_entry m c t r (lane n)).trans (V_cos m c _ _)).trans ?_
    unfold cosTable angle
    rw [hp, hl]
  · refine ((i4_entry m c t r (lane n)).trans (V_sin m c _ _)).trans ?_
    unfold sinTable angle
    rw [hp, hl]
    exact if_congr (iff_of_eq hc) rfl rfl

/-- What a column tile before the last leaves in the first result's block. -/
theorem main_at (c : Dev nD) (t : Fin cfg0.N) (h2 : ¬t.val % 9 = 8) (r n : Fin 1024) :
    (outsAt0 m c t.val t.isLt).1 (ix2 r n) = mainOut (m ((c : Thread nD τ).loc main_arg0)) (m ((c : Thread nD τ).loc main_arg1)) (m ((c : Thread nD τ).loc main_arg2)) (m ((c : Thread nD τ).loc main_arg3)) (m ((c : Thread nD τ).loc main_arg4)) (rowOf t r) ⟨1024 * (t.val % 9) + n.val, by omega⟩ := by
  by_cases h0 : t.val % 9 = 0
  · have h := outsAt0_A m c t h0 (by omega) (by omega) (by omega)
    rw [scratch_A, main_A] at h
    rw [h]
    exact (product_at m c t r n).trans (if_neg (by dsimp only; omega)).symm
  · have hs := scratch_before m c t h0
    by_cases h1 : t.val % 9 = 5
    · have h := outsAt0_C m c t h0 h1 (by omega) (by omega)
      rw [main_C, hs] at h
      rw [h]
      exact (turn_at m c t r n).trans (if_pos (by dsimp only; omega)).symm
    · have h := outsAt0_B m c t h0 h1 h2 ⟨h1, h2⟩
      rw [main_B, hs] at h
      rw [h]
      exact (product_at m c t r n).trans (if_neg (by dsimp only; omega)).symm

/-- What the last column tile leaves in the second result's block. -/
theorem misc_at (c : Dev nD) (t : Fin cfg0.N) (h2 : t.val % 9 = 8) (r n : Fin 1024) :
    (outsAt0 m c t.val t.isLt).2.1 (ix2 r n) = miscOut (m ((c : Thread nD τ).loc main_arg0)) (m ((c : Thread nD τ).loc main_arg1)) (m ((c : Thread nD τ).loc main_arg2)) (m ((c : Thread nD τ).loc main_arg3)) (m ((c : Thread nD τ).loc main_arg4)) (rowOf t r) n := by
  have h := outsAt0_D m c t (by omega) (by omega) h2 (by omega)
  rw [misc_D, scratch_before m c t (by omega)] at h
  rw [h]
  have hn : colOf t n = ⟨8192 + n.val, by omega⟩ := Fin.ext (by show 1024 * (t.val % 9) + n.val = 8192 + n.val; omega)
  by_cases hc : n.val < 640 ∨ (768 ≤ n.val ∧ n.val < 896)
  · exact (if_pos hc).trans (((turn_at m c t r n).trans (by rw [hn])).trans (if_pos hc).symm)
  · exact (if_neg hc).trans (((product_at m c t r n).trans (by rw [hn])).trans (if_neg hc).symm)

theorem idx_split (y : S1024x1024.Idx) : ∃ r n : Fin 1024, y = ix2 r n := ⟨y 0, y 1, funext fun a => by
  match a with
  | ⟨0, _⟩ => rfl
  | ⟨1, _⟩ => rfl⟩

/-- The first result's array after the run. -/
theorem final5 (c : Dev nD) : (dats m 0 c).arrAt 5 cfg0.N = fun y : S32768x8192.Idx => mainOut (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) := by
  refine (dats m 0 c).arrAt_eq_of_covers 5 _ (by decide +kernel) fun t hf y => ?_
  blk_simp
  rw [after0_5]
  obtain ⟨r, n, rfl⟩ := idx_split y
  have hr : ((win0_5.blk t).view.emb (ix2 r n) 0 : Fin 32768) = rowOf t r := Fin.ext (by
    show cc0_transform_5 (grid0.coords t) 0 * 1024 + 1 * r.val = 1024 * (t.val / 9) + r.val; rw [(tr5 t).1]; omega)
  by_cases h2 : t.val % 9 = 8
  · have h := outsAt0_D m c t (by omega) (by omega) h2 (by omega)
    have hlt : t.val - 1 < cfg0.N := Nat.lt_of_le_of_lt (Nat.sub_le _ _) t.isLt
    have hn : ((win0_5.blk t).view.emb (ix2 r n) 1 : Fin 8192) = (⟨1024 * ((t.val - 1) % 9) + n.val, by omega⟩ : Fin 8192) := Fin.ext (by
      show cc0_transform_5 (grid0.coords t) 1 * 1024 + 1 * n.val = 1024 * ((t.val - 1) % 9) + n.val; rw [(tr5 t).2]; omega)
    have hr' : rowOf ⟨t.val - 1, hlt⟩ r = rowOf t r := Fin.ext (by
      show 1024 * ((t.val - 1) / 9) + r.val = 1024 * (t.val / 9) + r.val; omega)
    rw [h]
    refine (main_at m c ⟨t.val - 1, hlt⟩ (by dsimp only; omega) r n).trans ?_
    exact congrArg₂ (mainOut (m ((c : Thread nD τ).loc main_arg0)) (m ((c : Thread nD τ).loc main_arg1)) (m ((c : Thread nD τ).loc main_arg2)) (m ((c : Thread nD τ).loc main_arg3)) (m ((c : Thread nD τ).loc main_arg4))) (hr'.trans hr.symm) hn.symm
  · have hn : ((win0_5.blk t).view.emb (ix2 r n) 1 : Fin 8192) = (⟨1024 * (t.val % 9) + n.val, by omega⟩ : Fin 8192) := Fin.ext (by
      show cc0_transform_5 (grid0.coords t) 1 * 1024 + 1 * n.val = 1024 * (t.val % 9) + n.val; rw [(tr5 t).2]; omega)
    refine (main_at m c t h2 r n).trans ?_
    exact congrArg₂ (mainOut (m ((c : Thread nD τ).loc main_arg0)) (m ((c : Thread nD τ).loc main_arg1)) (m ((c : Thread nD τ).loc main_arg2)) (m ((c : Thread nD τ).loc main_arg3)) (m ((c : Thread nD τ).loc main_arg4))) hr.symm hn.symm

/-- The second result's block is written back at the last column tile only. -/
theorem flush6 : ∀ t : Fin grid0.N, (cfg0.win 6).flush t = true → t.val % 9 = 8 := by decide +kernel

/-- The second result's array after the run. -/
theorem final6 (c : Dev nD) : (dats m 0 c).arrAt 6 cfg0.N = fun y : S32768x1024.Idx => miscOut (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) := by
  refine (dats m 0 c).arrAt_eq_of_covers 6 _ (by decide +kernel) fun t hf y => ?_
  blk_simp
  rw [after0_6]
  obtain ⟨r, n, rfl⟩ := idx_split y
  have h2 : t.val % 9 = 8 := flush6 t hf
  refine (misc_at m c t h2 r n).trans (congrArg₂ (miscOut (m ((c : Thread nD τ).loc main_arg0)) (m ((c : Thread nD τ).loc main_arg1)) (m ((c : Thread nD τ).loc main_arg2)) (m ((c : Thread nD τ).loc main_arg3)) (m ((c : Thread nD τ).loc main_arg4))) (Fin.ext ?_) (Fin.ext ?_))
  · show 1024 * (t.val / 9) + r.val = cc0_transform_6 (grid0.coords t) 0 * 1024 + 1 * r.val; rw [(tr6 t).1]; omega
  · show n.val = cc0_transform_6 (grid0.coords t) 1 * 1024 + 1 * n.val; rw [(tr6 t).2]; omega

/-- The kernel's run with both result arrays named and the arguments as they were. -/
theorem run_blocks (ρ : Dev nD → PrngReg) :
    θ_run defs (onTc (τ := τ) (main (F := Ideal))) ⟨m, fun _ => 0, ρ⟩ fun r => ∀ c : Dev nD,
      r.2.mem ((c : Thread nD τ).loc main_v6_0) = (dats m 0 c).arrAt 5 cfg0.N
      ∧ r.2.mem ((c : Thread nD τ).loc main_v6_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Kernel
end Cert.Proof.InprojValue
end
-- ==== Proof.InprojAlgebraic.lean ====
/- The input projection: the entries of the reference's two results, and that kernel and reference compute the same functions. -/
module

public import proofs.«01_k».proof.Defs
public import proofs.«01_k».proof.Proof.Gen.InprojRefIdeal.Run
public import proofs.«01_k».proof.Proof.InprojFinal

@[expose] public section

set_option maxRecDepth 16384

noncomputable section

namespace Cert.Proof.InprojValue

open Idealize.ShloMosaic Idealize.ShloMosaic.TcCoe Idealize.SL.Sem
section Reference
open Cert.InprojRefIdeal Cert.InprojRefIdeal.Gen

/-- The reference's projection: the normalised tokens times the weights. -/
def proj (x : FVec Ideal S32768x1024 .f32) (g : FVec Ideal S1024 .f32) (w : FVec Ideal S1024x9216 .f32) : FVec Ideal S32768x9216 .f32 :=
  Host.dotGeneral dot_S32768x1024_S1024x9216_S32768x9216_1_0_0_1_n_n none
    (mulf (mulf x (broadcastInDim S32768x1024 ![0, 1] bcast_S32768x1_S32768x1024_0_1 (Host.rsqrt (addf (Host.divf
      (broadcastInDim S32768x1 ![0] bcast_S32768_S32768x1_0 (Host.reduceAdd (mulf x x) (constant S_ .f32 0x00000000#32) reducesTo_S32768x1024_S32768_d1 h_S_))
      (broadcastInDim S32768x1 ![] bcast_S_S32768x1 (constant S_ .f32 0x44800000#32))) (broadcastInDim S32768x1 ![] bcast_S_S32768x1 (constant S_ .f32 0x358637BD#32))))))
      (broadcastInDim S32768x1024 ![0, 1] bcast_S1x1024_S32768x1024_0_1 (broadcastInDim S1x1024 ![1] bcast_S1024_S1x1024_1 g))) w

/-- The first halves of the projection's groups of columns, in two parts of 32. -/
def fore (p : FVec Ideal S32768x9216 .f32) : FVec Ideal S8x4096x72x2x32 .f32 :=
  shapeCast _ (extractStridedSlice S8x4096x72x64 ![0, 0, 0, 0] (shapeCast S8x4096x72x128 p shapeCasts_S32768x9216_S8x4096x72x128) slices_S8x4096x72x128_S8x4096x72x64_0_0_0_0) shapeCasts_S8x4096x72x64_S8x4096x72x2x32
/-- The second halves. -/
def hind (p : FVec Ideal S32768x9216 .f32) : FVec Ideal S8x4096x72x2x32 .f32 :=
  shapeCast _ (extractStridedSlice S8x4096x72x64 ![0, 0, 0, 64] (shapeCast S8x4096x72x128 p shapeCasts_S32768x9216_S8x4096x72x128) slices_S8x4096x72x128_S8x4096x72x64_0_0_0_64) shapeCasts_S8x4096x72x64_S8x4096x72x2x32
/-- A table at every token and group. -/
def spread (t : FVec Ideal S4096x32 .f32) : FVec Ideal S8x4096x72x2x32 .f32 :=
  broadcastInDim S8x4096x72x2x32 ![0, 1, 2, 3, 4] bcast_S1x4096x1x1x32_S8x4096x72x2x32_0_1_2_3_4 (broadcastInDim S1x4096x1x1x32 ![1, 4] bcast_S4096x32_S1x4096x1x1x32_1_4 t)
/-- Two halves put together again. -/
def glue (a b : FVec Ideal S8x4096x72x2x32 .f32) : FVec Ideal S32768x9216 .f32 :=
  shapeCast _ (concatenate S8x4096x72x128 3 [⟨S8x4096x72x64, (shapeCast _ a shapeCasts_S8x4096x72x2x32_S8x4096x72x64)⟩,
    ⟨S8x4096x72x64, (shapeCast _ b shapeCasts_S8x4096x72x2x32_S8x4096x72x64)⟩] concatenates_S8x4096x72x64_S8x4096x72x64_S8x4096x72x128_d3) shapeCasts_S8x4096x72x128_S32768x9216
/-- The reference's rotation of every group of columns. -/
def rot (p : FVec Ideal S32768x9216 .f32) (cos sin : FVec Ideal S4096x32 .f32) : FVec Ideal S32768x9216 .f32 :=
  glue (subf (mulf (fore p) (spread cos)) (mulf (hind p) (spread sin))) (addf (mulf (fore p) (spread sin)) (mulf (hind p) (spread cos)))

/-- The reference's first result of the projection and its rotation. -/
def refMain (p q : FVec Ideal S32768x9216 .f32) : FVec Ideal S32768x8192 .bf16 :=
  truncf .bf16 (concatenate S32768x8192 1 [⟨S32768x5120, extractStridedSlice S32768x5120 ![0, 0] p slices_S32768x9216_S32768x5120_0_0⟩,
    ⟨S32768x1024, extractStridedSlice S32768x1024 ![0, 5120] q slices_S32768x9216_S32768x1024_0_5120⟩,
    ⟨S32768x2048, extractStridedSlice S32768x2048 ![0, 6144] p slices_S32768x9216_S32768x2048_0_6144⟩] concatenates_S32768x5120_S32768x1024_S32768x2048_S32768x8192_d1) bitsLt_bf16_f32
/-- Its second result. -/
def refMisc (p q : FVec Ideal S32768x9216 .f32) : FVec Ideal S32768x1024 .f32 :=
  concatenate S32768x1024 1 [⟨S32768x640, extractStridedSlice S32768x640 ![0, 8192] q slices_S32768x9216_S32768x640_0_8192⟩,
    ⟨S32768x128, extractStridedSlice S32768x128 ![0, 8832] p slices_S32768x9216_S32768x128_0_8832⟩,
    ⟨S32768x128, extractStridedSlice S32768x128 ![0, 8960] q slices_S32768x9216_S32768x128_0_8960⟩,
    ⟨S32768x128, extractStridedSlice S32768x128 ![0, 9088] p slices_S32768x9216_S32768x128_0_9088⟩] concatenates_S32768x640_S32768x128_S32768x128_S32768x128_S32768x1024_d1

theorem res_main_eq (m : (ℓ : Loc nD τ sig) → Buf (Elt Ideal) ℓ) (c : Dev nD) :
    Value.res_out0 m c = refMain (proj (m ((c.tc : Thread nD τ).loc main_arg0)) (m ((c.tc : Thread nD τ).loc main_arg1)) (m ((c.tc : Thread nD τ).loc main_arg2))) (rot (proj (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) := rfl
theorem res_misc_eq (m : (ℓ : Loc nD τ sig) → Buf (Elt Ideal) ℓ) (c : Dev nD) :
    Value.res_out1 m c = refMisc (proj (m ((c.tc : Thread nD τ).loc main_arg0)) (m ((c.tc : Thread nD τ).loc main_arg1)) (m ((c.tc : Thread nD τ).loc main_arg2))) (rot (proj (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))) := rfl

theorem proj_entry (x : FVec Ideal S32768x1024 .f32) (g : FVec Ideal S1024 .f32) (w : FVec Ideal S1024x9216 .f32) (r : Fin 32768) (n : Fin 9216) :
    proj x g w (ix2 r n) = projected x g w r n := by
  unfold projected column rootInv
  pointwise [proj]

theorem fore_entry (p : FVec Ideal S32768x9216 .f32) (b : Fin 8) (s : Fin 4096) (h : Fin 72) (k : Fin 2) (l : Fin 32) :
    fore p (ix5 b s h k l) = p (ix2 ⟨4096 * b.val + s.val, by omega⟩ ⟨128 * h.val + (32 * k.val + l.val), by omega⟩) := by
  pointwise [fore]
  exact congrArg p (congrArg₂ ix2 (Fin.ext (by dsimp only; omega)) (Fin.ext (by dsimp only; omega)))
theorem hind_entry (p : FVec Ideal S32768x9216 .f32) (b : Fin 8) (s : Fin 4096) (h : Fin 72) (k : Fin 2) (l : Fin 32) :
    hind p (ix5 b s h k l) = p (ix2 ⟨4096 * b.val + s.val, by omega⟩ ⟨128 * h.val + (64 + (32 * k.val + l.val)), by omega⟩) := by
  pointwise [hind]
  exact congrArg p (congrArg₂ ix2 (Fin.ext (by dsimp only; omega)) (Fin.ext (by dsimp only; omega)))
theorem spread_entry (t : FVec Ideal S4096x32 .f32) (b : Fin 8) (s : Fin 4096) (h : Fin 72) (k : Fin 2) (l : Fin 32) :
    spread t (ix5 b s h k l) = t (ix2 s l) := by
  pointwise [spread]
theorem glue_entry (a b : FVec Ideal S8x4096x72x2x32 .f32) (r : Fin 32768) (n : Fin 9216) :
    glue a b (ix2 r n) = if n.val % 128 < 64
      then a (ix5 ⟨r.val / 4096, by omega⟩ ⟨r.val % 4096, by omega⟩ ⟨n.val / 128, by omega⟩ ⟨n.val % 64 / 32, by omega⟩ ⟨n.val % 32, by omega⟩)
      else b (ix5 ⟨r.val / 4096, by omega⟩ ⟨r.val % 4096, by omega⟩ ⟨n.val / 128, by omega⟩ ⟨n.val % 64 / 32, by omega⟩ ⟨n.val % 32, by omega⟩) := by
  pointwise [glue]
  by_cases hn : n.val % 128 < 64
  · refine (dif_pos hn).trans (Eq.trans ?_ (if_pos hn).symm)
    exact congrArg a (congrArg₂ (ix5 _ _ _) (Fin.ext (by dsimp only; omega)) (Fin.ext (by dsimp only; omega)))
  · refine (dif_neg hn).trans (Eq.trans ?_ (if_neg hn).symm)
    exact congrArg b (congrArg₂ (ix5 _ _ _) (Fin.ext (by dsimp only; omega)) (Fin.ext (by dsimp only; omega)))

theorem sum_turn (a b c d : EReal) : a * c - b * d = a * c + b * -d := by rw [sub_eq_add_neg, mul_neg]

/-- The reference's rotation at one entry. -/
theorem rot_entry (p : FVec Ideal S32768x9216 .f32) (cos sin : FVec Ideal S4096x32 .f32) (r : Fin 32768) (n : Fin 9216) :
    rot p cos sin (ix2 r n) = p (ix2 r n) * angle cos r n + p (ix2 r (mate n)) * (if n.val % 128 < 64 then -angle sin r n else angle sin r n) := by
  unfold rot
  rw [glue_entry]
  by_cases hn : n.val % 128 < 64
  · rw [if_pos hn, if_pos hn]
    show fore p _ * spread cos _ - hind p _ * spread sin _ = _
    rw [fore_entry, hind_entry, spread_entry, spread_entry, sum_turn]
    refine congrArg₂ (fun u v : EReal => u + v) (congrArg (fun u : EReal => u * _) ?_) (congrArg (fun u : EReal => u * _) ?_)
    · exact congrArg p (congrArg₂ ix2 (Fin.ext (by dsimp only; omega)) (Fin.ext (by dsimp only; omega)))
    · exact congrArg p (congrArg₂ ix2 (Fin.ext (by dsimp only; omega)) (Fin.ext (by dsimp only [mate]; omega)))
  · rw [if_neg hn, if_neg hn]
    show fore p _ * spread sin _ + hind p _ * spread cos _ = _
    rw [fore_entry, hind_entry, spread_entry, spread_entry, add_comm]
    refine congrArg₂ (fun u v : EReal => u + v) (congrArg (fun u : EReal => u * _) ?_) (congrArg (fun u : EReal => u * _) ?_)
    · exact congrArg p (congrArg₂ ix2 (Fin.ext (by dsimp only; omega)) (Fin.ext (by dsimp only; omega)))
    · exact congrArg p (congrArg₂ ix2 (Fin.ext (by dsimp only; omega)) (Fin.ext (by dsimp only [mate]; omega)))

theorem refMain_entry (p q : FVec Ideal S32768x9216 .f32) (r : Fin 32768) (n : Fin 8192) :
    refMain p q (ix2 r n) = if 5120 ≤ n.val ∧ n.val < 6144 then q (ix2 r ⟨n.val, by omega⟩) else p (ix2 r ⟨n.val, by omega⟩) := by
  pointwise [refMain]
  by_cases hn : 5120 ≤ n.val ∧ n.val < 6144
  · refine Eq.trans ?_ (if_pos hn).symm
    split_ifs
    all_goals first
      | (exfalso; omega)
      | exact congrArg q (congrArg (ix2 r) (Fin.ext (by dsimp only <;> omega)))
  · refine Eq.trans ?_ (if_neg hn).symm
    split_ifs
    all_goals first
      | (exfalso; omega)
      | exact congrArg p (congrArg (ix2 r) (Fin.ext (by dsimp only <;> omega)))
theorem refMisc_entry (p q : FVec Ideal S32768x9216 .f32) (r : Fin 32768) (n : Fin 1024) :
    refMisc p q (ix2 r n) = if n.val < 640 ∨ (768 ≤ n.val ∧ n.val < 896) then q (ix2 r ⟨8192 + n.val, by omega⟩) else p (ix2 r ⟨8192 + n.val, by omega⟩) := by
  pointwise [refMisc]
  by_cases hn : n.val < 640 ∨ (768 ≤ n.val ∧ n.val < 896)
  · refine Eq.trans ?_ (if_pos hn).symm
    split_ifs
    all_goals first
      | (exfalso; omega)
      | exact congrArg q (congrArg (ix2 r) (Fin.ext (by dsimp only <;> omega)))
  · refine Eq.trans ?_ (if_neg hn).symm
    split_ifs
    all_goals first
      | (exfalso; omega)
      | exact congrArg p (congrArg (ix2 r) (Fin.ext (by dsimp only <;> omega)))

/-- The reference's first result at one entry. -/
theorem main_entry (x : FVec Ideal S32768x1024 .f32) (g : FVec Ideal S1024 .f32) (w : FVec Ideal S1024x9216 .f32) (cos sin : FVec Ideal S4096x32 .f32)
    (r : Fin 32768) (n : Fin 8192) : refMain (proj x g w) (rot (proj x g w) cos sin) (ix2 r n) = mainOut x g w cos sin r n := by
  rw [refMain_entry, rot_entry, proj_entry, proj_entry]
  rfl
/-- Its second result at one entry. -/
theorem misc_entry (x : FVec Ideal S32768x1024 .f32) (g : FVec Ideal S1024 .f32) (w : FVec Ideal S1024x9216 .f32) (cos sin : FVec Ideal S4096x32 .f32)
    (r : Fin 32768) (n : Fin 1024) : refMisc (proj x g w) (rot (proj x g w) cos sin) (ix2 r n) = miscOut x g w cos sin r n := by
  rw [refMisc_entry, rot_entry, proj_entry, proj_entry]
  rfl
end Reference

/-- Kernel and reference compute the same two functions of their arguments. -/
theorem algebraic : Cert.algebraic_InprojIdeal_InprojRefIdeal (hInprojIdeal := Cert.InprojIdeal.Gen.facts)
    (hInprojRefIdeal := Cert.InprojRefIdeal.Gen.facts) := by
  intro m ρ m' ρ' _ hagree
  refine ⟨fun c => fun y : Cert.InprojIdeal.S32768x8192.Idx => mainOut (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (y 0) (y 1),
    fun c => fun y : Cert.InprojIdeal.S32768x1024.Idx => miscOut (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (y 0) (y 1), ?_, ?_⟩
  · exact (θ_run Cert.InprojIdeal.defs _ _).mono (fun _ h c => ⟨(h c).1.trans (final5 m c), (h c).2.1.trans (final6 m c), (h c).2.2⟩)
      (run_blocks m ρ)
  · refine (θ_run Cert.InprojRefIdeal.defs _ _).mono (fun _ h c => ⟨(h c).1.trans ?_, (h c).2.1.trans ?_, (h c).2.2⟩)
      (Cert.InprojRefIdeal.Value.run m' ρ')
    · obtain ⟨e0, e1, e2, e3, e4⟩ := hagree c
      beta_reduce
      refine (res_main_eq m' c).trans ?_
      rw [e0, e1, e2, e3, e4]
      funext y
      obtain ⟨r, n, rfl⟩ : ∃ (r : Fin 32768) (n : Fin 8192), y = ix2 r n := ⟨y 0, y 1, (ix2_eta y).symm⟩
      exact main_entry _ _ _ _ _ r n
    · obtain ⟨e0, e1, e2, e3, e4⟩ := hagree c
      beta_reduce
      refine (res_misc_eq m' c).trans ?_
      rw [e0, e1, e2, e3, e4]
      funext y
      obtain ⟨r, n, rfl⟩ : ∃ (r : Fin 32768) (n : Fin 1024), y = ix2 r n := ⟨y 0, y 1, (ix2_eta y).symm⟩
      exact misc_entry _ _ _ _ _ r n

end Cert.Proof.InprojValue

end
-- ==== Proof.MemkvValue.lean ====
/- The memory projection's value: the norm and the product as one function of the arguments, entry by entry; the kernel's
   result array is that function, and so is the reference's. -/
module

public import proofs.«01_k».proof.Defs
public import proofs.«01_k».proof.Proof.Gen.MemkvIdeal.Value
public import proofs.«01_k».proof.Proof.Gen.MemkvRefIdeal.Run
public import proofs.«01_k».proof.Proof.InprojValue

@[expose] public section

set_option maxRecDepth 16384

noncomputable section

namespace Cert.Proof.MemkvValue

open Idealize.ShloMosaic Idealize.ShloMosaic.TcCoe Idealize.SL.Sem
open Idealize.ShloMosaic.Pipeline (Dat)
open Cert.Proof.InprojValue (column rootInv)

/-- Keys and values of the memory's tokens: column `n` of token `r`, normalised, times the weights. -/
def keysValues (x : Vec Ideal Cert.MemkvIdeal.S2048x1024 .f32) (g : Vec Ideal Cert.MemkvIdeal.S1024 .f32)
    (w : Vec Ideal Cert.MemkvIdeal.S1024x2048 .f32) : Vec Ideal Cert.MemkvIdeal.S2048x2048 .bf16 := fun i =>
  column (fun j => x (ix2 (i 0) j)) (fun j => g (ix1 j)) (fun j => w (ix2 j (i 1)))

section Kernel
open Cert.MemkvIdeal Cert.MemkvIdeal.Gen

variable (m : (ℓ : Loc nD τ sig) → Buf (Elt Ideal) ℓ)

/-- Where each window's block stands at a point. -/
theorem index_facts : ∀ t : Fin grid0.N,
    win0_0.index t = ![t.val, 0] ∧ win0_1.index t = ![0, 0] ∧ win0_2.index t = ![0, 0] ∧ win0_3.index t = ![t.val, 0] := by
  decide +kernel

/-- The kernel's result array after its run. -/
theorem final (c : Dev nD) : (dats m 0 c).arrAt 3 cfg0.N
    = keysValues (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold keysValues column rootInv
  idx_vars y
  pointwise [k0_pay1]
  blk_point [iblk, V, index_facts t]

end Kernel

/-- At the ideal instance the kernel and the reference end with the same keys and values. -/
theorem algebraic : Cert.algebraic_MemkvIdeal_MemkvRefIdeal (hMemkvIdeal := Cert.MemkvIdeal.Gen.facts)
    (hMemkvRefIdeal := Cert.MemkvRefIdeal.Gen.facts) := by
  intro m ρ m' ρ' _ hagree
  refine ⟨fun c => keysValues (m ((c.tc : Thread Cert.MemkvIdeal.nD Cert.MemkvIdeal.τ).loc Cert.MemkvIdeal.main_arg0))
    (m ((c.tc : Thread Cert.MemkvIdeal.nD Cert.MemkvIdeal.τ).loc Cert.MemkvIdeal.main_arg1))
    (m ((c.tc : Thread Cert.MemkvIdeal.nD Cert.MemkvIdeal.τ).loc Cert.MemkvIdeal.main_arg2)), ?_, ?_⟩
  · exact (θ_run Cert.MemkvIdeal.defs _ _).mono (fun _ h c => ⟨(h c).1.trans (final m c), (h c).2⟩)
      (Cert.MemkvIdeal.Value.run_blocks m ρ)
  · refine (θ_run Cert.MemkvRefIdeal.defs _ _).mono (fun _ h c => ⟨(h c).1.trans ?_, (h c).2⟩)
      (Cert.MemkvRefIdeal.Value.run m' ρ')
    obtain ⟨e0, e1, e2⟩ := hagree c
    beta_reduce
    rw [← e0, ← e1, ← e2]
    funext y
    unfold keysValues column rootInv
    clean_types
    idx_vars y
    pointwise

end Cert.Proof.MemkvValue

end
-- ==== Proof.lean ====
module

public import proofs.«01_k».proof.Defs
public import proofs.«01_k».proof.Proof.Gen.Merge.Frame
public import proofs.«01_k».proof.Proof.Gen.MergeIdeal.Frame
public import proofs.«01_k».proof.Proof.Gen.MergeRefIdeal
public import proofs.«01_k».proof.Proof.Gen.Xattn.Frame
public import proofs.«01_k».proof.Proof.Gen.XattnIdeal.Frame
public import proofs.«01_k».proof.Proof.Gen.XattnRefIdeal
public import proofs.«01_k».proof.Proof.Gen.MergeIdeal.Value
public import proofs.«01_k».proof.Proof.Gen.XattnIdeal.Value
public import proofs.«01_k».proof.Proof.Gen.MergeRefIdeal.Run
public import proofs.«01_k».proof.Proof.Gen.XattnRefIdeal.Run
public import proofs.«01_k».proof.Proof.Gen.Experts.Skeleton
public import proofs.«01_k».proof.Proof.Gen.Experts.Launch
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.Pre_groups_in_range
public import proofs.«01_k».proof.Proof.Gen.Inproj.Frame
public import proofs.«01_k».proof.Proof.Gen.InprojIdeal.Frame
public import proofs.«01_k».proof.Proof.Gen.InprojIdeal.Skeleton
public import proofs.«01_k».proof.Proof.Gen.Inproj.Skeleton
public import proofs.«01_k».proof.Proof.Gen.InprojRefIdeal
public import proofs.«01_k».proof.Proof.Gen.InprojRefIdeal.Run
public import proofs.«01_k».proof.Proof.Gen.Memkv.Frame
public import proofs.«01_k».proof.Proof.Gen.MemkvIdeal.Frame
public import proofs.«01_k».proof.Proof.Gen.MemkvIdeal.Value
public import proofs.«01_k».proof.Proof.Gen.MemkvRefIdeal
public import proofs.«01_k».proof.Proof.Gen.MemkvRefIdeal.Run
public import proofs.«01_k».proof.Proof.MergeValue
public import proofs.«01_k».proof.Proof.XattnAlgebraic
public import proofs.«01_k».proof.Proof.ExpertsFrame
public import proofs.«01_k».proof.Proof.ExpertsIdealFrame
public import proofs.«01_k».proof.Proof.ExpertsOk
public import proofs.«01_k».proof.Proof.ExpertsAlgebraic
public import proofs.«01_k».proof.Proof.InprojFrame
public import proofs.«01_k».proof.Proof.InprojIdealFrame
public import proofs.«01_k».proof.Proof.InprojAlgebraic
public import proofs.«01_k».proof.Proof.MemkvValue
public import Idealize.ShloMosaic.Adequacy
public import Idealize.ShloMosaic.Init

@[expose] public section

noncomputable section

namespace Cert.Proof

open Idealize.ShloMosaic Idealize.SL.Sem

theorem mergeRef_frame : Cert.quiescent_MergeRefIdeal (hMergeRefIdeal := Cert.MergeRefIdeal.Gen.facts) := fun m ρ _ =>
  (θ_run Cert.MergeRefIdeal.defs _ _).mono
    (fun r h => ⟨fun c => (h c).2, Idealize.ShloMosaic.sem_eq_zero_of_no_sems (by decide) r.2⟩)
    (Cert.MergeRefIdeal.Value.run (F := Ideal) m ρ)

theorem xattnRef_frame : Cert.quiescent_XattnRefIdeal (hXattnRefIdeal := Cert.XattnRefIdeal.Gen.facts) := fun m ρ _ =>
  (θ_run Cert.XattnRefIdeal.defs _ _).mono
    (fun r h => ⟨fun c => (h c).2, Idealize.ShloMosaic.sem_eq_zero_of_no_sems (by decide) r.2⟩)
    (Cert.XattnRefIdeal.Value.run (F := Ideal) m ρ)

theorem expertsRef_frame : Cert.quiescent_ExpertsRefIdeal (hExpertsRefIdeal := Cert.ExpertsRefIdeal.Gen.facts) := fun m ρ _ =>
  (θ_run Cert.ExpertsRefIdeal.defs _ _).mono
    (fun r h => ⟨fun c => (h c).2, Idealize.ShloMosaic.sem_eq_zero_of_no_sems (by decide) r.2⟩)
    (Cert.ExpertsRefIdeal.Value.run (F := Ideal) m ρ)

theorem inprojRef_frame : Cert.quiescent_InprojRefIdeal (hInprojRefIdeal := Cert.InprojRefIdeal.Gen.facts) := fun m ρ _ =>
  (θ_run Cert.InprojRefIdeal.defs _ _).mono
    (fun r h => ⟨fun c => (h c).2.2, Idealize.ShloMosaic.sem_eq_zero_of_no_sems (by decide) r.2⟩)
    (Cert.InprojRefIdeal.Value.run (F := Ideal) m ρ)

theorem memkvRef_frame : Cert.quiescent_MemkvRefIdeal (hMemkvRefIdeal := Cert.MemkvRefIdeal.Gen.facts) := fun m ρ _ =>
  (θ_run Cert.MemkvRefIdeal.defs _ _).mono
    (fun r h => ⟨fun c => (h c).2, Idealize.ShloMosaic.sem_eq_zero_of_no_sems (by decide) r.2⟩)
    (Cert.MemkvRefIdeal.Value.run (F := Ideal) m ρ)

theorem claim : Cert.Claim :=
  ⟨Cert.Merge.Gen.facts, Cert.MergeIdeal.Gen.facts, Cert.MergeRefIdeal.Gen.facts, Cert.Xattn.Gen.facts,
    Cert.XattnIdeal.Gen.facts, Cert.XattnRefIdeal.Gen.facts, Cert.Experts.Gen.facts,
    Cert.ExpertsIdeal.Gen.facts, Cert.ExpertsRefIdeal.Gen.facts, Cert.Inproj.Gen.facts,
    Cert.InprojIdeal.Gen.facts, Cert.InprojRefIdeal.Gen.facts, Cert.Memkv.Gen.facts,
    Cert.MemkvIdeal.Gen.facts, Cert.MemkvRefIdeal.Gen.facts, XattnValue.preFacts, Cert.Pre_groups_in_range.Gen.facts,
    fun m ρ _ => Cert.Merge.Gen.frame m ρ, fun m ρ _ => Cert.MergeIdeal.Gen.frame m ρ, mergeRef_frame,
    fun m ρ _ => Cert.Xattn.Gen.frame m ρ, fun m ρ _ => Cert.XattnIdeal.Gen.frame m ρ,
    fun m ρ _ => Cert.XattnIdeal.Gen.frame m ρ, xattnRef_frame, fun m ρ _ => xattnRef_frame m ρ trivial,
    fun m ρ h => Cert.Experts.Kit.frame m ρ (ExpertsOk.Hw.ok_of_pre m h),
    fun m ρ h => Cert.ExpertsIdeal.Kit.frame m ρ (ExpertsOk.ok_of_pre m h),
    expertsRef_frame, fun m ρ _ => expertsRef_frame m ρ trivial,
    fun m ρ _ => Cert.Inproj.Kit.frame m ρ, fun m ρ _ => Cert.InprojIdeal.Kit.frame m ρ, inprojRef_frame,
    fun m ρ _ => Cert.Memkv.Gen.frame m ρ, fun m ρ _ => Cert.MemkvIdeal.Gen.frame m ρ, memkvRef_frame,
    trivial, MergeValue.algebraic, trivial, XattnValue.algebraic, trivial, ExpertsValue.algebraic,
    trivial, InprojValue.algebraic, trivial, MemkvValue.algebraic⟩

end Cert.Proof

end
